-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "ln2" .f32 0x3F317218#32 ((Real.log 2 : ℝ) : EReal)
  ∧ IdealRules.named_const.Statement Cert.KernelIdeal.κ "inv_d" .f32 0x3A638E39#32 ((1 / 1152 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v4_0)) (v4 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v4_0) = v3 c
          ∧ r.2.mem ((c.tc : Thread Cert.KernelIdeal.nD Cert.KernelIdeal.τ).loc Cert.KernelIdeal.main_v7) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1152 : Shape := ⟨3, ![4, 8192, 1152]⟩
abbrev S4x1152 : Shape := ⟨2, ![4, 1152]⟩
abbrev S1152x3456 : Shape := ⟨2, ![1152, 3456]⟩
abbrev S3456 : Shape := ⟨1, ![3456]⟩
abbrev S1152x4 : Shape := ⟨2, ![1152, 4]⟩
abbrev S_ : Shape := ⟨0, ![]⟩
abbrev S8x1152 : Shape := ⟨2, ![8, 1152]⟩
abbrev S1x3456 : Shape := ⟨2, ![1, 3456]⟩
abbrev S4x1152x3456 : Shape := ⟨3, ![4, 1152, 3456]⟩
abbrev S4x1x3456 : Shape := ⟨3, ![4, 1, 3456]⟩
abbrev S1152x384 : Shape := ⟨2, ![1152, 384]⟩
abbrev S1x384 : Shape := ⟨2, ![1, 384]⟩
abbrev S4x1152x384 : Shape := ⟨3, ![4, 1152, 384]⟩
abbrev S4x1x384 : Shape := ⟨3, ![4, 1, 384]⟩
abbrev S1152x1 : Shape := ⟨2, ![1152, 1]⟩
abbrev S384 : Shape := ⟨1, ![384]⟩
abbrev S1x1152x384 : Shape := ⟨3, ![1, 1152, 384]⟩
abbrev S1x1x384 : Shape := ⟨3, ![1, 1, 384]⟩
abbrev S8x384 : Shape := ⟨2, ![8, 384]⟩
abbrev S4x384 : Shape := ⟨2, ![4, 384]⟩
abbrev S4x8192x3456 : Shape := ⟨3, ![4, 8192, 3456]⟩
abbrev S4x16x1x512 : Shape := ⟨4, ![4, 16, 1, 512]⟩
abbrev S1x512x1152 : Shape := ⟨3, ![1, 512, 1152]⟩
abbrev S1x1152x3456 : Shape := ⟨3, ![1, 1152, 3456]⟩
abbrev S1x1x3456 : Shape := ⟨3, ![1, 1, 3456]⟩
abbrev S1x512x3456 : Shape := ⟨3, ![1, 512, 3456]⟩
abbrev S1x1x1x512 : Shape := ⟨4, ![1, 1, 1, 512]⟩
abbrev S512x1152 : Shape := ⟨2, ![512, 1152]⟩
abbrev S512x128 : Shape := ⟨2, ![512, 128]⟩
abbrev S128x128 : Shape := ⟨2, ![128, 128]⟩
abbrev S32x1152 : Shape := ⟨2, ![32, 1152]⟩
abbrev S32 : Shape := ⟨1, ![32]⟩
abbrev S32x1 : Shape := ⟨2, ![32, 1]⟩
abbrev S1x32x1152 : Shape := ⟨3, ![1, 32, 1152]⟩
abbrev S32x128 : Shape := ⟨2, ![32, 128]⟩
abbrev S128 : Shape := ⟨1, ![128]⟩
abbrev S1x128 : Shape := ⟨2, ![1, 128]⟩
abbrev S1x512 : Shape := ⟨2, ![1, 512]⟩
abbrev S1x1152x256 : Shape := ⟨3, ![1, 1152, 256]⟩
abbrev S1152x256 : Shape := ⟨2, ![1152, 256]⟩
abbrev S512x256 : Shape := ⟨2, ![512, 256]⟩
abbrev S1x1x128 : Shape := ⟨3, ![1, 1, 128]⟩
abbrev S1x512x128 : Shape := ⟨3, ![1, 512, 128]⟩
abbrev S1x1152x128 : Shape := ⟨3, ![1, 1152, 128]⟩
abbrev S1152x128 : Shape := ⟨2, ![1152, 128]⟩
abbrev S4x8192 : Shape := ⟨2, ![4, 8192]⟩
abbrev S4x3456 : Shape := ⟨2, ![4, 3456]⟩

abbrev nBuf : Space → Nat
  | .hbm => 20
  | .vmem => 30
  | .smem => 0
  | _ => 0

abbrev bufTy : (tb : Table) → Fin (tcTables nBuf tb) → BufTy
  | .hbm, ⟨0, _⟩ => ⟨S4x8192x1152, .bf16⟩
  | .hbm, ⟨1, _⟩ => ⟨S4x1152, .f32⟩
  | .hbm, ⟨2, _⟩ => ⟨S4x1152, .f32⟩
  | .hbm, ⟨3, _⟩ => ⟨S1152x3456, .fp8e4m3⟩
  | .hbm, ⟨4, _⟩ => ⟨S3456, .f32⟩
  | .hbm, ⟨5, _⟩ => ⟨S3456, .f32⟩
  | .hbm, ⟨6, _⟩ => ⟨S1152x4, .f32⟩
  | .hbm, ⟨7, _⟩ => ⟨S_, .i32⟩
  | .hbm, ⟨8, _⟩ => ⟨S_, .f32⟩
  | .hbm, ⟨9, _⟩ => ⟨S8x1152, .f32⟩
  | .hbm, ⟨10, _⟩ => ⟨S1x3456, .f32⟩
  | .hbm, ⟨11, _⟩ => ⟨S1x3456, .f32⟩
  | .hbm, ⟨12, _⟩ => ⟨S4x1152x3456, .fp8e4m3⟩
  | .hbm, ⟨13, _⟩ => ⟨S4x1x3456, .f32⟩
  | .hbm, ⟨14, _⟩ => ⟨S4x1x3456, .f32⟩
  | .hbm, ⟨15, _⟩ => ⟨S4x8192x3456, .bf16⟩
  | .hbm, ⟨16, _⟩ => ⟨S4x8192x1152, .fp8e4m3⟩
  | .hbm, ⟨17, _⟩ => ⟨S4x16x1x512, .f32⟩
  | .hbm, ⟨18, _⟩ => ⟨S4x8192, .f32⟩
  | .hbm, ⟨19, _⟩ => ⟨S4x3456, .f32⟩
  | .local _ .vmem, ⟨0, _⟩ => ⟨S1152x384, .fp8e4m3⟩
  | .local _ .vmem, ⟨1, _⟩ => ⟨S1152x384, .fp8e4m3⟩
  | .local _ .vmem, ⟨2, _⟩ => ⟨S1x384, .f32⟩
  | .local _ .vmem, ⟨3, _⟩ => ⟨S1x384, .f32⟩
  | .local _ .vmem, ⟨4, _⟩ => ⟨S1x384, .f32⟩
  | .local _ .vmem, ⟨5, _⟩ => ⟨S1x384, .f32⟩
  | .local _ .vmem, ⟨6, _⟩ => ⟨S1152x4, .f32⟩
  | .local _ .vmem, ⟨7, _⟩ => ⟨S8x1152, .f32⟩
  | .local _ .vmem, ⟨8, _⟩ => ⟨S4x1152x384, .fp8e4m3⟩
  | .local _ .vmem, ⟨9, _⟩ => ⟨S4x1152x384, .fp8e4m3⟩
  | .local _ .vmem, ⟨10, _⟩ => ⟨S4x1x384, .f32⟩
  | .local _ .vmem, ⟨11, _⟩ => ⟨S4x1x384, .f32⟩
  | .local _ .vmem, ⟨12, _⟩ => ⟨S4x1x384, .f32⟩
  | .local _ .vmem, ⟨13, _⟩ => ⟨S4x1x384, .f32⟩
  | .local _ .vmem, ⟨14, _⟩ => ⟨S1x512x1152, .bf16⟩
  | .local _ .vmem, ⟨15, _⟩ => ⟨S1x512x1152, .bf16⟩
  | .local _ .vmem, ⟨16, _⟩ => ⟨S1x1152x3456, .fp8e4m3⟩
  | .local _ .vmem, ⟨17, _⟩ => ⟨S1x1152x3456, .fp8e4m3⟩
  | .local _ .vmem, ⟨18, _⟩ => ⟨S1x1x3456, .f32⟩
  | .local _ .vmem, ⟨19, _⟩ => ⟨S1x1x3456, .f32⟩
  | .local _ .vmem, ⟨20, _⟩ => ⟨S1x1x3456, .f32⟩
  | .local _ .vmem, ⟨21, _⟩ => ⟨S1x1x3456, .f32⟩
  | .local _ .vmem, ⟨22, _⟩ => ⟨S1x512x3456, .bf16⟩
  | .local _ .vmem, ⟨23, _⟩ => ⟨S1x512x3456, .bf16⟩
  | .local _ .vmem, ⟨24, _⟩ => ⟨S1x512x1152, .fp8e4m3⟩
  | .local _ .vmem, ⟨25, _⟩ => ⟨S1x512x1152, .fp8e4m3⟩
  | .local _ .vmem, ⟨26, _⟩ => ⟨S1x1x1x512, .f32⟩
  | .local _ .vmem, ⟨27, _⟩ => ⟨S1x1x1x512, .f32⟩
  | .local _ .vmem, ⟨28, _⟩ => ⟨S512x1152, .fp8e4m3⟩
  | .local _ .vmem, ⟨29, _⟩ => ⟨S512x128, .f32⟩
  | _, _ => ⟨S4x8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc1_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S1152x384 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1152x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1152 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x1152x384 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x512x1152 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1152x3456 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x3456 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x3456 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x3456 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512x1152 .fp8e4m3 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "inv_d" => some ((1 / 1152 : ℝ) : EReal)
  | "ln2" => some ((Real.log 2 : ℝ) : EReal)
  | _ => none
-- ==== ReferenceIdeal.lean ====
abbrev S4x8192x1152 : Shape := ⟨3, ![4, 8192, 1152]⟩
abbrev S4x1152 : Shape := ⟨2, ![4, 1152]⟩
abbrev S1152x3456 : Shape := ⟨2, ![1152, 3456]⟩
abbrev S3456 : Shape := ⟨1, ![3456]⟩
abbrev S4x8192x3456 : Shape := ⟨3, ![4, 8192, 3456]⟩
abbrev S4x8192 : Shape := ⟨2, ![4, 8192]⟩
abbrev S4x1152x3456 : Shape := ⟨3, ![4, 1152, 3456]⟩
abbrev S4x3456 : Shape := ⟨2, ![4, 3456]⟩
abbrev S4x8192x1 : Shape := ⟨3, ![4, 8192, 1]⟩
abbrev S4x1152x1 : Shape := ⟨3, ![4, 1152, 1]⟩
abbrev S1x3456 : Shape := ⟨2, ![1, 3456]⟩
abbrev S1x1152x3456 : Shape := ⟨3, ![1, 1152, 3456]⟩
abbrev S4x1x3456 : Shape := ⟨3, ![4, 1, 3456]⟩

abbrev nBuf : Space → Nat
  | .hbm => 11
  | .vmem => 11
  | .smem => 0
  | _ => 0

abbrev bufTy : (tb : Table) → Fin (tcTables nBuf tb) → BufTy
  | .hbm, ⟨0, _⟩ => ⟨S4x8192x1152, .bf16⟩
  | .hbm, ⟨1, _⟩ => ⟨S4x1152, .f32⟩
  | .hbm, ⟨2, _⟩ => ⟨S4x1152, .f32⟩
  | .hbm, ⟨3, _⟩ => ⟨S1152x3456, .fp8e4m3⟩
  | .hbm, ⟨4, _⟩ => ⟨S3456, .f32⟩
  | .hbm, ⟨5, _⟩ => ⟨S3456, .f32⟩
  | .hbm, ⟨6, _⟩ => ⟨S4x8192x3456, .bf16⟩
  | .hbm, ⟨7, _⟩ => ⟨S4x8192x1152, .fp8e4m3⟩
  | .hbm, ⟨8, _⟩ => ⟨S4x8192, .f32⟩
  | .hbm, ⟨9, _⟩ => ⟨S4x1152x3456, .fp8e4m3⟩
  | .hbm, ⟨10, _⟩ => ⟨S4x3456, .f32⟩
  | .local _ .vmem, ⟨0, _⟩ => ⟨S4x8192x1152, .bf16⟩
  | .local _ .vmem, ⟨1, _⟩ => ⟨S4x1152, .f32⟩
  | .local _ .vmem, ⟨2, _⟩ => ⟨S4x1152, .f32⟩
  | .local _ .vmem, ⟨3, _⟩ => ⟨S1152x3456, .fp8e4m3⟩
  | .local _ .vmem, ⟨4, _⟩ => ⟨S3456, .f32⟩
  | .local _ .vmem, ⟨5, _⟩ => ⟨S3456, .f32⟩
  | .local _ .vmem, ⟨6, _⟩ => ⟨S4x8192x3456, .bf16⟩
  | .local _ .vmem, ⟨7, _⟩ => ⟨S4x8192x1152, .fp8e4m3⟩
  | .local _ .vmem, ⟨8, _⟩ => ⟨S4x8192, .f32⟩
  | .local _ .vmem, ⟨9, _⟩ => ⟨S4x1152x3456, .fp8e4m3⟩
  | .local _ .vmem, ⟨10, _⟩ => ⟨S4x3456, .f32⟩
  | _, _ => ⟨S4x8192x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S4x8192x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1152 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152x3456 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3456 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x3456 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192x1152 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1152x3456 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x3456 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KernelFrame.lean ====
/- What a run of `proofs.«01_k».proof.Kernel` leaves: the frame certificate of the program of two kernels among host operations.
   Per kernel, at a parameter `V` (the buffers' contents where it is entered): each window's block at a grid point (`iblk0`, `iblk1`), what
   the body leaves in the outputs' staging buffers (`out0_w`; `out1_A_w`), the proof data (`dat0`, `dat1`) and the body's obligation. Then the run:
   the buffers' contents at each boundary (`W0` to `W6`), the program as segments, and the claim.
   It has the shape of a generated frame module. It is written here because the last output's store writes a `1x1x1x128` piece through a
   squeezed view, so that the program declares no name for that shape, which the generated module uses. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_weight_prep` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1152x384 := Rect.unit (s := S1152x384) ![0, 0] S1152x384.size inb_S1152x384_S1152x384_0_0
abbrev r0_1 : Rect S1x384 := Rect.unit (s := S1x384) ![0, 0] S1x384.size inb_S1x384_S1x384_0_0
abbrev r0_2 : Rect S1152x4 := Rect.unit (s := S1152x4) ![0, 0] S1152x1.size inb_S1152x4_S1152x1_0_0
abbrev r0_3 : Rect S4x1152x384 := Rect.unit (s := S4x1152x384) ![0, 0, 0] S1x1152x384.size inb_S4x1152x384_S1x1152x384_0_0_0
abbrev r0_4 : Rect S4x1x384 := Rect.unit (s := S4x1x384) ![0, 0, 0] S1x1x384.size inb_S4x1x384_S1x1x384_0_0_0
abbrev r0_5 : Rect S1152x4 := Rect.unit (s := S1152x4) ![0, 1] S1152x1.size inb_S1152x4_S1152x1_0_1
abbrev r0_6 : Rect S4x1152x384 := Rect.unit (s := S4x1152x384) ![1, 0, 0] S1x1152x384.size inb_S4x1152x384_S1x1152x384_1_0_0
abbrev r0_7 : Rect S4x1x384 := Rect.unit (s := S4x1x384) ![1, 0, 0] S1x1x384.size inb_S4x1x384_S1x1x384_1_0_0
abbrev r0_8 : Rect S1152x4 := Rect.unit (s := S1152x4) ![0, 2] S1152x1.size inb_S1152x4_S1152x1_0_2
abbrev r0_9 : Rect S4x1152x384 := Rect.unit (s := S4x1152x384) ![2, 0, 0] S1x1152x384.size inb_S4x1152x384_S1x1152x384_2_0_0
abbrev r0_10 : Rect S4x1x384 := Rect.unit (s := S4x1x384) ![2, 0, 0] S1x1x384.size inb_S4x1x384_S1x1x384_2_0_0
abbrev r0_11 : Rect S1152x4 := Rect.unit (s := S1152x4) ![0, 3] S1152x1.size inb_S1152x4_S1152x1_0_3
abbrev r0_12 : Rect S4x1152x384 := Rect.unit (s := S4x1152x384) ![3, 0, 0] S1x1152x384.size inb_S4x1152x384_S1x1152x384_3_0_0
abbrev r0_13 : Rect S4x1x384 := Rect.unit (s := S4x1x384) ![3, 0, 0] S1x1x384.size inb_S4x1x384_S1x1x384_3_0_0
abbrev r0_14 : Rect S8x1152 := Rect.unit (s := S8x1152) ![0, 0] S8x1152.size inb_S8x1152_S8x1152_0_0
abbrev r0_15 : Rect S4x1x384 := Rect.unit (s := S4x1x384) ![0, 0, 0] S4x1x384.size inb_S4x1x384_S4x1x384_0_0_0

/-! ## What the body leaves in each output window's buffer -/

/-! ### Values of the body that the stores' payloads, spelt out, would write more than once

    Each is a vector the body binds (often a part call's result), stated over the input windows' blocks and
    numbered on from the skeleton's payload functions (`k0_pay29` …, after `k0_pay28`), so that
    `out0_W` and the values after it name it instead of spelling it out (`unfold_payloads` opens them with the payloads); the comment after each is the printed function's
    name for the value (a count appended where that name is bound again). -/

def k0_pay29 (x0 : Vec F S1152x384 .fp8e4m3) (x1 : Vec F S1x384 .f32) (x2 : Vec F S1x384 .f32) (x3 : Vec F S1152x4 .f32) (x4 : Vec F S8x1152 .f32) : FVec F S1152x384 .f32 :=
  k0_pay4 (View.ld x0 r0_0) (View.ld x1 r0_1) -- `v5`
def k0_pay30 (x0 : Vec F S1152x384 .fp8e4m3) (x1 : Vec F S1x384 .f32) (x2 : Vec F S1x384 .f32) (x3 : Vec F S1152x4 .f32) (x4 : Vec F S8x1152 .f32) : IVec S1x384 32 :=
  k0_pay13 (k0_pay29 x0 x1 x2 x3 x4) (View.ld x3 r0_5) -- `v78`
def k0_pay31 (x0 : Vec F S1152x384 .fp8e4m3) (x1 : Vec F S1x384 .f32) (x2 : Vec F S1x384 .f32) (x3 : Vec F S1152x4 .f32) (x4 : Vec F S8x1152 .f32) : FVec F S1x384 .f32 :=
  k0_pay18 (k0_pay29 x0 x1 x2 x3 x4) (View.ld x3 r0_8) -- `v118`
def k0_pay32 (x0 : Vec F S1152x384 .fp8e4m3) (x1 : Vec F S1x384 .f32) (x2 : Vec F S1x384 .f32) (x3 : Vec F S1152x4 .f32) (x4 : Vec F S8x1152 .f32) : FVec F S1152x1 .f32 :=
  k0_pay23 (View.ld x3 r0_11) -- `v156`

/-- Window 5's staging buffer after the body, from the input windows' blocks: its 4 stores as pieces, LAST
    FIRST (Lib/Pipeline/FrameBody.lean `View.canon`; the payloads are the skeleton's and the values stated above). -/
def out0_5 (x0 : Vec F S1152x384 .fp8e4m3) (x1 : Vec F S1x384 .f32) (x2 : Vec F S1x384 .f32) (x3 : Vec F S1152x4 .f32) (x4 : Vec F S8x1152 .f32) : Vec F S4x1152x384 .fp8e4m3 :=
  View.canon [⟨r0_12, k0_pay28 (k0_pay29 x0 x1 x2 x3 x4) (k0_pay32 x0 x1 x2 x3 x4)⟩,
    ⟨r0_9, k0_pay21 (k0_pay17 (k0_pay29 x0 x1 x2 x3 x4) (View.ld x3 r0_8)) (k0_pay31 x0 x1 x2 x3 x4)⟩,
    ⟨r0_6, k0_pay15 (k0_pay12 (k0_pay29 x0 x1 x2 x3 x4) (View.ld x3 r0_5)) (k0_pay30 x0 x1 x2 x3 x4) 0#32⟩,
    ⟨r0_3, k0_pay10 (k0_pay5 (View.ld x0 r0_0) (View.ld x1 r0_1) (View.ld x3 r0_2)) (k0_pay7 (View.ld x0 r0_0) (View.ld x1 r0_1) (View.ld x3 r0_2)) (k0_pay8 (View.ld x0 r0_0) (View.ld x1 r0_1) (View.ld x3 r0_2)) (Scalar.ofBits .f32 0x3F800000#32)⟩]

/-- Its stores tile the buffer (checked by evaluation), so they cover it. -/
theorem cover0_5 (p0 : Vec F S1x1152x384 .fp8e4m3) (p1 : Vec F S1x1152x384 .fp8e4m3) (p2 : Vec F S1x1152x384 .fp8e4m3) (p3 : Vec F S1x1152x384 .fp8e4m3) (y : S4x1152x384.Idx) :
    ∃ pc ∈ ([⟨r0_12, p0⟩, ⟨r0_9, p1⟩, ⟨r0_6, p2⟩, ⟨r0_3, p3⟩] : List (View.Piece (Elt F) S4x1152x384 .fp8e4m3)), y ∈ pc.1.set :=
  View.cover_of_tiled [⟨r0_12, p0⟩, ⟨r0_9, p1⟩, ⟨r0_6, p2⟩, ⟨r0_3, p3⟩] S1x1152x384.size (by rfl) y

/-- Window 6's staging buffer after the body, from the input windows' blocks: its 4 stores as pieces, LAST
    FIRST (Lib/Pipeline/FrameBody.lean `View.canon`; the payloads are the skeleton's and the values stated above). -/
def out0_6 (x0 : Vec F S1152x384 .fp8e4m3) (x1 : Vec F S1x384 .f32) (x2 : Vec F S1x384 .f32) (x3 : Vec F S1152x4 .f32) (x4 : Vec F S8x1152 .f32) : Vec F S4x1x384 .f32 :=
  View.canon [⟨r0_13, k0_pay1 (k0_pay27 (k0_pay29 x0 x1 x2 x3 x4) (k0_pay32 x0 x1 x2 x3 x4))⟩,
    ⟨r0_10, k0_pay22 (k0_pay31 x0 x1 x2 x3 x4)⟩,
    ⟨r0_7, k0_pay16 (F := F) (k0_pay30 x0 x1 x2 x3 x4) 0#32⟩,
    ⟨r0_4, k0_pay11 (k0_pay9 (View.ld x0 r0_0) (View.ld x1 r0_1) (View.ld x3 r0_2))⟩]

/-- Its stores tile the buffer (checked by evaluation), so they cover it. -/
theorem cover0_6 (p0 : Vec F S1x1x384 .f32) (p1 : Vec F S1x1x384 .f32) (p2 : Vec F S1x1x384 .f32) (p3 : Vec F S1x1x384 .f32) (y : S4x1x384.Idx) :
    ∃ pc ∈ ([⟨r0_13, p0⟩, ⟨r0_10, p1⟩, ⟨r0_7, p2⟩, ⟨r0_4, p3⟩] : List (View.Piece (Elt F) S4x1x384 .f32)), y ∈ pc.1.set :=
  View.cover_of_tiled [⟨r0_13, p0⟩, ⟨r0_10, p1⟩, ⟨r0_7, p2⟩, ⟨r0_4, p3⟩] S1x1x384.size (by rfl) y

/-- Window 7's staging buffer after the body, from the input windows' blocks: its 1 store as pieces, LAST
    FIRST (Lib/Pipeline/FrameBody.lean `View.canon`; the payloads are the skeleton's and the values stated above). -/
def out0_7 (x0 : Vec F S1152x384 .fp8e4m3) (x1 : Vec F S1x384 .f32) (x2 : Vec F S1x384 .f32) (x3 : Vec F S1152x4 .f32) (x4 : Vec F S8x1152 .f32) : Vec F S4x1x384 .f32 :=
  View.canon [⟨r0_15, k0_pay2 (k0_pay3 (View.ld x0 r0_0)) (View.ld x4 r0_14) (View.ld x1 r0_1) (View.ld x2 r0_1)⟩]

/-- Its stores tile the buffer (checked by evaluation), so they cover it. -/
theorem cover0_7 (p0 : Vec F S4x1x384 .f32) (y : S4x1x384.Idx) :
    ∃ pc ∈ ([⟨r0_15, p0⟩] : List (View.Piece (Elt F) S4x1x384 .f32)), y ∈ pc.1.set :=
  View.cover_of_tiled [⟨r0_15, p0⟩] S4x1x384.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1152x384 .fp8e4m3) (harg1 : arg1.IsWhole) (arg2 : Memref sig .tc .vmem S1x384 .f32) (harg2 : arg2.IsWhole) (arg3 : Memref sig .tc .vmem S1x384 .f32) (harg3 : arg3.IsWhole) (arg4 : Memref sig .tc .vmem S1152x4 .f32) (harg4 : arg4.IsWhole) (arg5 : Memref sig .tc .vmem S8x1152 .f32) (harg5 : arg5.IsWhole) (arg6 : Memref sig .tc .vmem S4x1152x384 .fp8e4m3) (harg6 : arg6.IsWhole) (arg7 : Memref sig .tc .vmem S4x1x384 .f32) (harg7 : arg7.IsWhole) (arg8 : Memref sig .tc .vmem S4x1x384 .f32) (harg8 : arg8.IsWhole)
    (x0 : Vec F S1152x384 .fp8e4m3) (x1 : Vec F S1x384 .f32) (x2 : Vec F S1x384 .f32) (x3 : Vec F S1152x4 .f32) (x4 : Vec F S8x1152 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0_weight_prep i arg1 harg1 arg2 harg2 arg3 harg3 arg4 harg4 arg5 harg5 arg6 harg6 arg7 harg7 arg8 harg8) K := by
  simp only [cc0_weight_prep_eq_skeleton]; unfold cc0_weight_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  isplitl [H6]
  · iexists _; isplitr
    swap; · iexact H6
    ipureintro
    refine (View.read_writes_eq_canon _ _ _ (cover0_6 _ _ _ _)).trans ?_
    rfl
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_ln_quant_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1x512x3456 .bf16 := (Memref.whole cc1_stg4_0 : Memref sig .tc .vmem S1x512x3456 .bf16).view
/-- One staging buffer of output window 5, through which its contents are stated (`View.read_writes_of_cover`: the
    choice does not matter). -/
abbrev VO1_5 : View sig .tc .vmem S1x512x1152 .fp8e4m3 := (Memref.whole cc1_stg5_0 : Memref sig .tc .vmem S1x512x1152 .fp8e4m3).view
/-- One staging buffer of output window 6, through which its contents are stated (`View.read_writes_of_cover`: the
    choice does not matter). -/
abbrev VO1_6 : View sig .tc .vmem S1x1x1x512 .f32 := (Memref.whole cc1_stg6_0 : Memref sig .tc .vmem S1x1x1x512 .f32).view
/-- Each window's current staging memref at point `t`, spelled as the pipeline passes it (`bodyAt1`), and its wholeness. -/
abbrev ms1_0 (t : Fin cfg1.N) : Memref sig .tc .vmem S1x512x1152 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1152x3456 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x3456 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x3456 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x3456 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1152 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1x512 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x1152 .fp8e4m3 := Memref.whole cc1_scratch0
abbrev scM1_1 : Memref sig .tc .vmem S512x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp (MT nD τ sig Unit (Elt F) ℕ (UR sig nD τ) ℕ))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 2148000 in set_option sl_exec.squeezeSlice true in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) :
    Σ' (L4 : List (View.Piece (Elt F) S1x512x3456 .bf16)), Σ' (L5 : List (View.Piece (Elt F) S1x512x1152 .fp8e4m3)), Σ' (L6 : List (View.Piece (Elt F) S1x1x1x512 .f32)), Σ' (LT0 : List (View.Piece (Elt F) S512x1152 .fp8e4m3)), { LT1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc1_ln_quant_matmul i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_ln_quant_matmul_eq_skeleton]; unfold cc1_ln_quant_matmul_skel
    simp only [k1_part43_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

/-- The run's pieces for output 4 tile its block (27 stores of `S1x512x128`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x512x3456.Idx) :
    ∃ pc ∈ (kernelRun1_A c i arg2 harg2 arg3 harg3 arg4 harg4 arg5 harg5 arg6 harg6 arg7 harg7 arg8 harg8 arg9 harg9 arg10 harg10 x0 x1 x2 x3).1, y ∈ pc.1.set :=
  View.cover_of_tiledL (kernelRun1_A c i arg2 harg2 arg3 harg3 arg4 harg4 arg5 harg5 arg6 harg6 arg7 harg7 arg8 harg8 arg9 harg9 arg10 harg10 x0 x1 x2 x3).1 S1x512x128.size (by sl_kernel_rfl) y

/-- What the run leaves in output 4's staging buffer: its pieces read back over junk. -/
def out1_A_4 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x512x3456 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 x0 x1 x2 x3).1)

/-- The run's pieces for output 5 tile its block (16 stores of `S1x32x1152`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x512x1152.Idx) :
    ∃ pc ∈ (kernelRun1_A c i arg2 harg2 arg3 harg3 arg4 harg4 arg5 harg5 arg6 harg6 arg7 harg7 arg8 harg8 arg9 harg9 arg10 harg10 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.1 S1x32x1152.size (by sl_kernel_rfl) y

/-- What the run leaves in output 5's staging buffer: its pieces read back over junk. -/
def out1_A_5 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x512x1152 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 arg10 harg10 x0 x1 x2 x3).2.1)

/-- The run's pieces for output 6 tile its block (4 stores of `S1x1x1x128`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x1x1x512.Idx) :
    ∃ pc ∈ (kernelRun1_A c i arg2 harg2 arg3 harg3 arg4 harg4 arg5 harg5 arg6 harg6 arg7 harg7 arg8 harg8 arg9 harg9 arg10 harg10 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.2.1 (⟨4, ![1, 1, 1, 128]⟩ : Shape).size (by sl_kernel_rfl) y

/-- What the run leaves in output 6's staging buffer: its pieces read back over junk. -/
def out1_A_6 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x1x1x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S1x512x3456 .bf16 × Vec F S1x512x1152 .fp8e4m3 × Vec F S1x1x1x512 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A_4 out1_A_5 out1_A_6; (try dsimp only)
  iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ _ _ (iblk1 V c 0 t) (iblk1 V c 1 t) (iblk1 V c 2 t) (iblk1 V c 3 t)).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%fT0, HS0⟩, ⟨%fT1, HS1⟩⟩
  isplitl [HR0 HR1 HR2 HR3 HR4 HR5 HR6 HR7 HR8 HR9 HR10 HR11 HR12 HR13 HS0 HS1 Hg]
  · isplitl [HR0 HR1 HR2 HR3 HR4 HR5 HR6 HR7 HR8 HR9 HR10 HR11 HR12 HR13 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp (MT nD τ sig Unit (Elt F) ℕ (UR sig nD τ) ℕ) := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_Kernel`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.Kernel.Run

end
-- ==== Proof.KernelIdealFrame.lean ====
/- What a run of `proofs.«01_k».proof.KernelIdeal` leaves: the frame certificate of the program of two kernels among host operations.
   Per kernel, at a parameter `V` (the buffers' contents where it is entered): each window's block at a grid point (`iblk0`, `iblk1`), what
   the body leaves in the outputs' staging buffers (`out0_w`; `out1_A_w`), the proof data (`dat0`, `dat1`) and the body's obligation. Then the run:
   the buffers' contents at each boundary (`W0` to `W6`), the program as segments, and the claim.
   It has the shape of a generated frame module. It is written here because the last output's store writes a `1x1x1x128` piece through a
   squeezed view, so that the program declares no name for that shape, which the generated module uses. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_weight_prep` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1152x384 := Rect.unit (s := S1152x384) ![0, 0] S1152x384.size inb_S1152x384_S1152x384_0_0
abbrev r0_1 : Rect S1x384 := Rect.unit (s := S1x384) ![0, 0] S1x384.size inb_S1x384_S1x384_0_0
abbrev r0_2 : Rect S1152x4 := Rect.unit (s := S1152x4) ![0, 0] S1152x1.size inb_S1152x4_S1152x1_0_0
abbrev r0_3 : Rect S4x1152x384 := Rect.unit (s := S4x1152x384) ![0, 0, 0] S1x1152x384.size inb_S4x1152x384_S1x1152x384_0_0_0
abbrev r0_4 : Rect S4x1x384 := Rect.unit (s := S4x1x384) ![0, 0, 0] S1x1x384.size inb_S4x1x384_S1x1x384_0_0_0
abbrev r0_5 : Rect S1152x4 := Rect.unit (s := S1152x4) ![0, 1] S1152x1.size inb_S1152x4_S1152x1_0_1
abbrev r0_6 : Rect S4x1152x384 := Rect.unit (s := S4x1152x384) ![1, 0, 0] S1x1152x384.size inb_S4x1152x384_S1x1152x384_1_0_0
abbrev r0_7 : Rect S4x1x384 := Rect.unit (s := S4x1x384) ![1, 0, 0] S1x1x384.size inb_S4x1x384_S1x1x384_1_0_0
abbrev r0_8 : Rect S1152x4 := Rect.unit (s := S1152x4) ![0, 2] S1152x1.size inb_S1152x4_S1152x1_0_2
abbrev r0_9 : Rect S4x1152x384 := Rect.unit (s := S4x1152x384) ![2, 0, 0] S1x1152x384.size inb_S4x1152x384_S1x1152x384_2_0_0
abbrev r0_10 : Rect S4x1x384 := Rect.unit (s := S4x1x384) ![2, 0, 0] S1x1x384.size inb_S4x1x384_S1x1x384_2_0_0
abbrev r0_11 : Rect S1152x4 := Rect.unit (s := S1152x4) ![0, 3] S1152x1.size inb_S1152x4_S1152x1_0_3
abbrev r0_12 : Rect S4x1152x384 := Rect.unit (s := S4x1152x384) ![3, 0, 0] S1x1152x384.size inb_S4x1152x384_S1x1152x384_3_0_0
abbrev r0_13 : Rect S4x1x384 := Rect.unit (s := S4x1x384) ![3, 0, 0] S1x1x384.size inb_S4x1x384_S1x1x384_3_0_0
abbrev r0_14 : Rect S8x1152 := Rect.unit (s := S8x1152) ![0, 0] S8x1152.size inb_S8x1152_S8x1152_0_0
abbrev r0_15 : Rect S4x1x384 := Rect.unit (s := S4x1x384) ![0, 0, 0] S4x1x384.size inb_S4x1x384_S4x1x384_0_0_0

/-! ## What the body leaves in each output window's buffer -/

/-! ### Values of the body that the stores' payloads, spelt out, would write more than once

    Each is a vector the body binds (often a part call's result), stated over the input windows' blocks and
    numbered on from the skeleton's payload functions (`k0_pay29` …, after `k0_pay28`), so that
    `out0_W` and the values after it name it instead of spelling it out (`unfold_payloads` opens them with the payloads); the comment after each is the printed function's
    name for the value (a count appended where that name is bound again). -/

def k0_pay29 (x0 : Vec F S1152x384 .fp8e4m3) (x1 : Vec F S1x384 .f32) (x2 : Vec F S1x384 .f32) (x3 : Vec F S1152x4 .f32) (x4 : Vec F S8x1152 .f32) : FVec F S1152x384 .f32 :=
  k0_pay4 (View.ld x0 r0_0) (View.ld x1 r0_1) -- `v5`
def k0_pay30 (x0 : Vec F S1152x384 .fp8e4m3) (x1 : Vec F S1x384 .f32) (x2 : Vec F S1x384 .f32) (x3 : Vec F S1152x4 .f32) (x4 : Vec F S8x1152 .f32) : IVec S1x384 32 :=
  k0_pay13 (k0_pay29 x0 x1 x2 x3 x4) (View.ld x3 r0_5) -- `v78`
def k0_pay31 (x0 : Vec F S1152x384 .fp8e4m3) (x1 : Vec F S1x384 .f32) (x2 : Vec F S1x384 .f32) (x3 : Vec F S1152x4 .f32) (x4 : Vec F S8x1152 .f32) : FVec F S1x384 .f32 :=
  k0_pay18 (k0_pay29 x0 x1 x2 x3 x4) (View.ld x3 r0_8) -- `v118`
def k0_pay32 (x0 : Vec F S1152x384 .fp8e4m3) (x1 : Vec F S1x384 .f32) (x2 : Vec F S1x384 .f32) (x3 : Vec F S1152x4 .f32) (x4 : Vec F S8x1152 .f32) : FVec F S1152x1 .f32 :=
  k0_pay23 (View.ld x3 r0_11) -- `v156`

/-- Window 5's staging buffer after the body, from the input windows' blocks: its 4 stores as pieces, LAST
    FIRST (Lib/Pipeline/FrameBody.lean `View.canon`; the payloads are the skeleton's and the values stated above). -/
def out0_5 (x0 : Vec F S1152x384 .fp8e4m3) (x1 : Vec F S1x384 .f32) (x2 : Vec F S1x384 .f32) (x3 : Vec F S1152x4 .f32) (x4 : Vec F S8x1152 .f32) : Vec F S4x1152x384 .fp8e4m3 :=
  View.canon [⟨r0_12, k0_pay28 (k0_pay29 x0 x1 x2 x3 x4) (k0_pay32 x0 x1 x2 x3 x4)⟩,
    ⟨r0_9, k0_pay21 (k0_pay17 (k0_pay29 x0 x1 x2 x3 x4) (View.ld x3 r0_8)) (k0_pay31 x0 x1 x2 x3 x4)⟩,
    ⟨r0_6, k0_pay15 (k0_pay12 (k0_pay29 x0 x1 x2 x3 x4) (View.ld x3 r0_5)) (k0_pay30 x0 x1 x2 x3 x4) 0#32⟩,
    ⟨r0_3, k0_pay10 (k0_pay5 (View.ld x0 r0_0) (View.ld x1 r0_1) (View.ld x3 r0_2)) (k0_pay7 (View.ld x0 r0_0) (View.ld x1 r0_1) (View.ld x3 r0_2)) (k0_pay8 (View.ld x0 r0_0) (View.ld x1 r0_1) (View.ld x3 r0_2)) (Scalar.ofBits .f32 0x3F800000#32)⟩]

/-- Its stores tile the buffer (checked by evaluation), so they cover it. -/
theorem cover0_5 (p0 : Vec F S1x1152x384 .fp8e4m3) (p1 : Vec F S1x1152x384 .fp8e4m3) (p2 : Vec F S1x1152x384 .fp8e4m3) (p3 : Vec F S1x1152x384 .fp8e4m3) (y : S4x1152x384.Idx) :
    ∃ pc ∈ ([⟨r0_12, p0⟩, ⟨r0_9, p1⟩, ⟨r0_6, p2⟩, ⟨r0_3, p3⟩] : List (View.Piece (Elt F) S4x1152x384 .fp8e4m3)), y ∈ pc.1.set :=
  View.cover_of_tiled [⟨r0_12, p0⟩, ⟨r0_9, p1⟩, ⟨r0_6, p2⟩, ⟨r0_3, p3⟩] S1x1152x384.size (by rfl) y

/-- Window 6's staging buffer after the body, from the input windows' blocks: its 4 stores as pieces, LAST
    FIRST (Lib/Pipeline/FrameBody.lean `View.canon`; the payloads are the skeleton's and the values stated above). -/
def out0_6 (x0 : Vec F S1152x384 .fp8e4m3) (x1 : Vec F S1x384 .f32) (x2 : Vec F S1x384 .f32) (x3 : Vec F S1152x4 .f32) (x4 : Vec F S8x1152 .f32) : Vec F S4x1x384 .f32 :=
  View.canon [⟨r0_13, k0_pay1 (k0_pay27 (k0_pay29 x0 x1 x2 x3 x4) (k0_pay32 x0 x1 x2 x3 x4))⟩,
    ⟨r0_10, k0_pay22 (k0_pay31 x0 x1 x2 x3 x4)⟩,
    ⟨r0_7, k0_pay16 (F := F) (k0_pay30 x0 x1 x2 x3 x4) 0#32⟩,
    ⟨r0_4, k0_pay11 (k0_pay9 (View.ld x0 r0_0) (View.ld x1 r0_1) (View.ld x3 r0_2))⟩]

/-- Its stores tile the buffer (checked by evaluation), so they cover it. -/
theorem cover0_6 (p0 : Vec F S1x1x384 .f32) (p1 : Vec F S1x1x384 .f32) (p2 : Vec F S1x1x384 .f32) (p3 : Vec F S1x1x384 .f32) (y : S4x1x384.Idx) :
    ∃ pc ∈ ([⟨r0_13, p0⟩, ⟨r0_10, p1⟩, ⟨r0_7, p2⟩, ⟨r0_4, p3⟩] : List (View.Piece (Elt F) S4x1x384 .f32)), y ∈ pc.1.set :=
  View.cover_of_tiled [⟨r0_13, p0⟩, ⟨r0_10, p1⟩, ⟨r0_7, p2⟩, ⟨r0_4, p3⟩] S1x1x384.size (by rfl) y

/-- Window 7's staging buffer after the body, from the input windows' blocks: its 1 store as pieces, LAST
    FIRST (Lib/Pipeline/FrameBody.lean `View.canon`; the payloads are the skeleton's and the values stated above). -/
def out0_7 (x0 : Vec F S1152x384 .fp8e4m3) (x1 : Vec F S1x384 .f32) (x2 : Vec F S1x384 .f32) (x3 : Vec F S1152x4 .f32) (x4 : Vec F S8x1152 .f32) : Vec F S4x1x384 .f32 :=
  View.canon [⟨r0_15, k0_pay2 (k0_pay3 (View.ld x0 r0_0)) (View.ld x4 r0_14) (View.ld x1 r0_1) (View.ld x2 r0_1)⟩]

/-- Its stores tile the buffer (checked by evaluation), so they cover it. -/
theorem cover0_7 (p0 : Vec F S4x1x384 .f32) (y : S4x1x384.Idx) :
    ∃ pc ∈ ([⟨r0_15, p0⟩] : List (View.Piece (Elt F) S4x1x384 .f32)), y ∈ pc.1.set :=
  View.cover_of_tiled [⟨r0_15, p0⟩] S4x1x384.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1152x384 .fp8e4m3) (harg1 : arg1.IsWhole) (arg2 : Memref sig .tc .vmem S1x384 .f32) (harg2 : arg2.IsWhole) (arg3 : Memref sig .tc .vmem S1x384 .f32) (harg3 : arg3.IsWhole) (arg4 : Memref sig .tc .vmem S1152x4 .f32) (harg4 : arg4.IsWhole) (arg5 : Memref sig .tc .vmem S8x1152 .f32) (harg5 : arg5.IsWhole) (arg6 : Memref sig .tc .vmem S4x1152x384 .fp8e4m3) (harg6 : arg6.IsWhole) (arg7 : Memref sig .tc .vmem S4x1x384 .f32) (harg7 : arg7.IsWhole) (arg8 : Memref sig .tc .vmem S4x1x384 .f32) (harg8 : arg8.IsWhole)
    (x0 : Vec F S1152x384 .fp8e4m3) (x1 : Vec F S1x384 .f32) (x2 : Vec F S1x384 .f32) (x3 : Vec F S1152x4 .f32) (x4 : Vec F S8x1152 .f32) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4)) -∗ K ⟨⟩))
      ⊢ wp frame (wpE (defs₀ (F := F)) Variants.none c none) E (cc0_weight_prep i arg1 harg1 arg2 harg2 arg3 harg3 arg4 harg4 arg5 harg5 arg6 harg6 arg7 harg7 arg8 harg8) K := by
  simp only [cc0_weight_prep_eq_skeleton]; unfold cc0_weight_prep_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _)).trans ?_
    rfl
  isplitl [H6]
  · iexists _; isplitr
    swap; · iexact H6
    ipureintro
    refine (View.read_writes_eq_canon _ _ _ (cover0_6 _ _ _ _)).trans ?_
    rfl
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp (MT nD τ sig Unit (Elt F) ℕ (UR sig nD τ) ℕ) :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp (MT nD τ sig Unit (Elt F) ℕ (UR sig nD τ) ℕ) :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1_ln_quant_matmul` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 4, through which its contents are stated (`View.read_writes_of_cover`: the
    choice does not matter). -/
abbrev VO1_4 : View sig .tc .vmem S1x512x3456 .bf16 := (Memref.whole cc1_stg4_0 : Memref sig .tc .vmem S1x512x3456 .bf16).view
/-- One staging buffer of output window 5, through which its contents are stated (`View.read_writes_of_cover`: the
    choice does not matter). -/
abbrev VO1_5 : View sig .tc .vmem S1x512x1152 .fp8e4m3 := (Memref.whole cc1_stg5_0 : Memref sig .tc .vmem S1x512x1152 .fp8e4m3).view
/-- One staging buffer of output window 6, through which its contents are stated (`View.read_writes_of_cover`: the
    choice does not matter). -/
abbrev VO1_6 : View sig .tc .vmem S1x1x1x512 .f32 := (Memref.whole cc1_stg6_0 : Memref sig .tc .vmem S1x1x1x512 .f32).view
/-- Each window's current staging memref at point `t`, spelled as the pipeline passes it (`bodyAt1`), and its wholeness. -/
abbrev ms1_0 (t : Fin cfg1.N) : Memref sig .tc .vmem S1x512x1152 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1152x3456 .fp8e4m3 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x3456 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x3456 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512x3456 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1152 .fp8e4m3 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x1x512 .f32 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S512x1152 .fp8e4m3 := Memref.whole cc1_scratch0
abbrev scM1_1 : Memref sig .tc .vmem S512x128 .f32 := Memref.whole cc1_scratch1

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp (MT nD τ sig Unit (Elt F) ℕ (UR sig nD τ) ℕ))
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

-- (the run's proof term is large: the definition's epilogue — `abstractNestedProofs` — walks it past the default budget)
set_option maxHeartbeats 2148000 in set_option sl_exec.squeezeSlice true in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) :
    Σ' (L4 : List (View.Piece (Elt F) S1x512x3456 .bf16)), Σ' (L5 : List (View.Piece (Elt F) S1x512x1152 .fp8e4m3)), Σ' (L6 : List (View.Piece (Elt F) S1x1x1x512 .f32)), Σ' (LT0 : List (View.Piece (Elt F) S512x1152 .fp8e4m3)), { LT1 : List (View.Piece (Elt F) S512x128 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LT0) ∗ (∃ f, arg10.view.loc (c : Thread nD τ) ↦[arg10.view.set]{fullShare} arg10.view.writes (Elt F) f LT1)) -∗ K ⟨⟩))
          ⊢ wp frame (wpE (defs₀ (F := F)) Variants.none c none) E (cc1_ln_quant_matmul i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc1_ln_quant_matmul_eq_skeleton]; unfold cc1_ln_quant_matmul_skel
    simp only [k1_part43_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton, k1_part41_eq_skeleton, k1_part42_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]; · iexists _; iexact HS0
    iexists _; iexact HS1

/-- The run's pieces for output 4 tile its block (27 stores of `S1x512x128`, checked by the kernel's evaluation: Lib/Ring.lean `Piece.tiledL`, linear in the pieces, through a loop's `@[irreducible]` trip theorem too), so they cover it. -/
theorem cover1_A_4 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x512x3456.Idx) :
    ∃ pc ∈ (kernelRun1_A c i arg2 harg2 arg3 harg3 arg4 harg4 arg5 harg5 arg6 harg6 arg7 harg7 arg8 harg8 arg9 harg9 arg10 harg10 x0 x1 x2 x3).1, y ∈ pc.1.set :=
  View.cover_of_tiledL (kernelRun1_A c i arg2 harg2 arg3 harg3 arg4 harg4 arg5 harg5 arg6 harg6 arg7 harg7 arg8 harg8 arg9 harg9 arg10 harg10 x0 x1 x2 x3).1 S1x512x128.size (by sl_kernel_rfl) y

/-- What the run leaves in output 4's staging buffer: its pieces read back over junk. -/
def out1_A_4 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x512x3456 .bf16 :=
  VO1_4.read (Elt F) (VO1_4.writes (Elt F) VO1_4.junk (kernelRun1_A c i arg2 harg2 arg3 harg3 arg4 harg4 arg5 harg5 arg6 harg6 arg7 harg7 arg8 harg8 arg9 harg9 arg10 harg10 x0 x1 x2 x3).1)

/-- The run's pieces for output 5 tile its block (16 stores of `S1x32x1152`, checked by the kernel's evaluation: Lib/Ring.lean `Piece.tiledL`, linear in the pieces, through a loop's `@[irreducible]` trip theorem too), so they cover it. -/
theorem cover1_A_5 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x512x1152.Idx) :
    ∃ pc ∈ (kernelRun1_A c i arg2 harg2 arg3 harg3 arg4 harg4 arg5 harg5 arg6 harg6 arg7 harg7 arg8 harg8 arg9 harg9 arg10 harg10 x0 x1 x2 x3).2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.1 S1x32x1152.size (by sl_kernel_rfl) y

/-- What the run leaves in output 5's staging buffer: its pieces read back over junk. -/
def out1_A_5 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x512x1152 .fp8e4m3 :=
  VO1_5.read (Elt F) (VO1_5.writes (Elt F) VO1_5.junk (kernelRun1_A c i arg2 harg2 arg3 harg3 arg4 harg4 arg5 harg5 arg6 harg6 arg7 harg7 arg8 harg8 arg9 harg9 arg10 harg10 x0 x1 x2 x3).2.1)

/-- The run's pieces for output 6 tile its block (4 stores of `S1x1x1x128`, checked by the kernel's evaluation: Lib/Ring.lean `Piece.tiledL`, linear in the pieces, through a loop's `@[irreducible]` trip theorem too), so they cover it. -/
theorem cover1_A_6 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) (y : S1x1x1x512.Idx) :
    ∃ pc ∈ (kernelRun1_A c i arg2 harg2 arg3 harg3 arg4 harg4 arg5 harg5 arg6 harg6 arg7 harg7 arg8 harg8 arg9 harg9 arg10 harg10 x0 x1 x2 x3).2.2.1, y ∈ pc.1.set :=
  View.cover_of_tiledL (kernelRun1_A c i arg2 harg2 arg3 harg3 arg4 harg4 arg5 harg5 arg6 harg6 arg7 harg7 arg8 harg8 arg9 harg9 arg10 harg10 x0 x1 x2 x3).2.2.1 (⟨4, ![1, 1, 1, 128]⟩ : Shape).size (by sl_kernel_rfl) y

/-- What the run leaves in output 6's staging buffer: its pieces read back over junk. -/
def out1_A_6 (c : Dev nD) (i : grid1.Coords) (arg2 : Memref sig .tc .vmem S1x512x1152 .bf16) (harg2 : arg2.IsWhole) (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x0 : Vec F S1x512x1152 .bf16) (x1 : Vec F S1x1152x3456 .fp8e4m3) (x2 : Vec F S1x1x3456 .f32) (x3 : Vec F S1x1x3456 .f32) : Vec F S1x1x1x512 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 x0 x1 x2 x3).2.2.1)

/-! ## What the outputs hold after each point -/

/-- What the outputs' staging buffers hold after the body at point `t` (as a tuple, in window order): the run's contents at
    the point's memrefs and input blocks. -/
def outsAt1 (c : Dev nD) (t : Fin cfg1.N) : Vec F S1x512x3456 .bf16 × Vec F S1x512x1152 .fp8e4m3 × Vec F S1x1x1x512 .f32 :=
  (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (iblk1 V c 0 t) (iblk1 V c 1 t) (iblk1 V c 2 t) (iblk1 V c 3 t))

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t).1
    | ⟨5, _⟩ => (outsAt1 V c t).2.1
    | ⟨6, _⟩ => (outsAt1 V c t).2.2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t).1 := by dsimp only [dat1]
theorem after1_5 (c : Dev nD) (t : Fin cfg1.N) : (dat1 V c).after 5 t = (outsAt1 V c t).2.1 := by dsimp only [dat1]
theorem after1_6 (c : Dev nD) (t : Fin cfg1.N) : (dat1 V c).after 6 t = (outsAt1 V c t).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp (MT nD τ sig Unit (Elt F) ℕ (UR sig nD τ) ℕ) :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp (MT nD τ sig Unit (Elt F) ℕ (UR sig nD τ) ℕ) :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  unfold outsAt1
  unfold out1_A_4 out1_A_5 out1_A_6; (try dsimp only)
  iintro ⟨⟨⟨HR0, HR1, HR2, HR3, HR4, HR5, HR6, HR7, HR8, HR9, HR10, HR11, HR12, HR13, HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ _ _ _ _ (iblk1 V c 0 t) (iblk1 V c 1 t) (iblk1 V c 2 t) (iblk1 V c 3 t)).2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, ⟨%e5, H5⟩, ⟨%e6, H6⟩, ⟨%fT0, HS0⟩, ⟨%fT1, HS1⟩⟩
  isplitl [HR0 HR1 HR2 HR3 HR4 HR5 HR6 HR7 HR8 HR9 HR10 HR11 HR12 HR13 HS0 HS1 Hg]
  · isplitl [HR0 HR1 HR2 HR3 HR4 HR5 HR6 HR7 HR8 HR9 HR10 HR11 HR12 HR13 HS0 HS1]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover1_A_4 c _ _ _ _ _ _ _ _ _ _ _ _ _ _ _ _ _ _ _ _ _ _ _)
  isplitl [H5]
  · unfold owns; iexists _; isplitr
    swap; · iexact H5
    ipureintro; exact View.read_writes_of_cover _ _ _ _ _ (cover1_A_5 c _ _ _ _ _ _ _ _ _ _ _ _ _ _ _ _ _ _ _ _ _ _ _)
  unfold owns; iexists _; isplitr
  swap; · iexact H6
  ipureintro; exact View.read_writes_of_cover _ _ _ _ _ (cover1_A_6 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`) (region 1's entry). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After `hostOps2`. -/
abbrev W6 : Dev nD → Valuation τ sig (Elt F) := fun c => StableHlo.after hostOps2 (W5 m ρ c)
/-- A reference `hostOps2` does not write keeps its contents across it. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp (MT nD τ sig Unit (Elt F) ℕ (UR sig nD τ) ℕ) := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp (MT nD τ sig Unit (Elt F) ℕ (UR sig nD τ) ℕ) := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: every buffer that the launch holds ends at the last boundary's contents `W6`, and every semaphore's counter at 0. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W6_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun s ⟨h, hz⟩ => ⟨(fun c =>
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩), hz⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h => h.1) (frame m ρ)

end Cert.KernelIdeal.Run

end
-- ==== Proof.Entry.lean ====
/- The arrays the kernel's host operations prepare for its first call, element by element, in terms of the arguments. -/
module

public import proofs.«01_k».proof.Proof.KernelIdealFrame
public import Idealize.ShloMosaic.Lib.StableHlo.ReadAt
public import Idealize.ShloMosaic.Lib.Pointwise

@[expose] public section

set_option maxRecDepth 16384

noncomputable section

namespace Cert.KernelIdeal.Entry

open Cert Cert.KernelIdeal Cert.KernelIdeal.Gen Cert.KernelIdeal.Run
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-- The gains, transposed. -/
theorem gains (d : Fin 1152) (b : Fin 4) : V3 m ρ c main_v0 (ix2 d b) = m ((c : Thread nD τ).loc main_arg1) (ix2 b d) := by
  have e : V3 m ρ c main_v0 = W1 m ρ c (Proc.devRef .tc main_v0) :=
    (W3_of m ρ c main_v0 (by decide)).trans (W2_of m ρ c main_v0 (by decide))
  rw [e]
  show StableHlo.after hostOps0 (W0 m ρ c) (Proc.devRef .tc main_v0) (ix2 d b) = _
  after_reads_at

/-- The shifts, with four rows of padding below them. -/
theorem shifts (b : Fin 4) (d : Fin 1152) :
    V3 m ρ c main_v1 (ix2 ⟨b.val, by omega⟩ d) = m ((c : Thread nD τ).loc main_arg2) (ix2 b d) := by
  have e : V3 m ρ c main_v1 = W2 m ρ c (Proc.devRef .tc main_v1) := W3_of m ρ c main_v1 (by decide)
  have e' : W1 m ρ c (Proc.devRef .tc main_arg2) = m ((c : Thread nD τ).loc main_arg2) := W1_args m ρ c main_arg2 (by decide)
  rw [e, ← e']
  show StableHlo.after hostOps0_1 (W1 m ρ c) (Proc.devRef .tc main_v1) _ = _
  generalize W1 m ρ c = X
  after_reads_at

/-- The weights' scales, as one row. -/
theorem scales (n : Fin 3456) : V3 m ρ c main_v2 (ix2 0 n) = m ((c : Thread nD τ).loc main_arg4) (ix1 n) := by
  have e' : W2 m ρ c (Proc.devRef .tc main_arg4) = m ((c : Thread nD τ).loc main_arg4) := W2_args m ρ c main_arg4 (by decide)
  rw [← e']
  show StableHlo.after hostOps0_2 (W2 m ρ c) (Proc.devRef .tc main_v2) _ = _
  generalize W2 m ρ c = X
  after_reads_at

/-- The bias, as one row. -/
theorem biases (n : Fin 3456) : V3 m ρ c main_v3 (ix2 0 n) = m ((c : Thread nD τ).loc main_arg5) (ix1 n) := by
  have e' : W2 m ρ c (Proc.devRef .tc main_arg5) = m ((c : Thread nD τ).loc main_arg5) := W2_args m ρ c main_arg5 (by decide)
  rw [← e']
  show StableHlo.after hostOps0_2 (W2 m ρ c) (Proc.devRef .tc main_v3) _ = _
  generalize W2 m ρ c = X
  after_reads_at

end Cert.KernelIdeal.Entry
-- ==== Proof.Scale.lean ====
/- The power-of-two scale of a quantised group, as a function of one extended real `t` (the group's largest magnitude
   over 448): the kernel builds it from a bit pattern, the reference from `exp2`. Both are shown equal for every `t`. -/
module

public import Idealize.ShloMosaic.Lib.ValueIdx
public import Idealize.ShloMosaic.PureOps.Ideal

@[expose] public section

noncomputable section

namespace Cert.Scale

open Idealize.ShloMosaic

/-- The logarithm of two, as an extended real. -/
abbrev ln2 : EReal := ((Real.log 2 : ℝ) : EReal)

/-- The exponent field the kernel computes from `t`, shifted to its place in a 32-bit pattern. -/
def expBits (t : EReal) : BitVec 32 :=
  IntOp.shli .vector (Ideal.fptosi 32 (min (Ideal.ofBits .f32 0x437C0000#32) (max (Ideal.ofBits .f32 0x00000000#32)
    (Ideal.liftRound Int.floor (Ideal.div (Ideal.log t) ln2) + Ideal.ofBits .f32 0x42FE0000#32)))) 23#32

/-- The kernel's scale. -/
def kScale (t : EReal) : EReal :=
  Scalar.select (IntOp.cmpi .eq (expBits t) 0#32) (Ideal.ofBits .f32 0x3F800000#32)
    (Ideal.ofBits .f32 (IntOp.addi (expBits t) 8388608#32))

/-- The kernel's inverse scale. -/
def kInv (t : EReal) : EReal :=
  Scalar.select (IntOp.cmpi .eq (expBits t) 0#32) (Ideal.ofBits .f32 0x3F800000#32)
    (Ideal.ofBits .f32 (IntOp.subi 2122317824#32 (expBits t)))

/-- The reference's exponent. -/
def rExp (t : EReal) : EReal :=
  Scalar.select (Ideal.cmp .olt t (Ideal.ofBits .f32 0x00800000#32)) (Ideal.ofBits .f32 0x00000000#32)
    (min (Ideal.liftRound Int.floor (Ideal.div (Ideal.log t) ln2) + Ideal.ofBits .f32 0x3F800000#32) (Ideal.ofBits .f32 0x42FC0000#32))

/-- The reference's scale. -/
def rScale (t : EReal) : EReal := Ideal.exp2 (rExp t)

/-- The reference's inverse scale. -/
def rInv (t : EReal) : EReal := Ideal.exp2 (Ideal.ofBits .f32 0x00000000#32 - rExp t)

theorem ofBits_zero : Ideal.ofBits .f32 0x00000000#32 = 0 := by
  simp [Ideal.ofBits, Ideal.ieee, -EReal.coe_mul]

theorem ofBits_one : Ideal.ofBits .f32 0x3F800000#32 = ((1 : ℝ) : EReal) := by
  simp [Ideal.ofBits, Ideal.ieee, -EReal.coe_mul]; norm_num

theorem ofBits_126 : Ideal.ofBits .f32 0x42FC0000#32 = ((126 : ℝ) : EReal) := by
  simp [Ideal.ofBits, Ideal.ieee, -EReal.coe_mul]; norm_num

theorem ofBits_127 : Ideal.ofBits .f32 0x42FE0000#32 = ((127 : ℝ) : EReal) := by
  simp [Ideal.ofBits, Ideal.ieee, -EReal.coe_mul]; norm_num

theorem ofBits_252 : Ideal.ofBits .f32 0x437C0000#32 = ((252 : ℝ) : EReal) := by
  simp [Ideal.ofBits, Ideal.ieee, -EReal.coe_mul]; norm_num

theorem ofBits_tiny : Ideal.ofBits .f32 0x00800000#32 = (((2 : ℝ) ^ (-126 : ℤ) : ℝ) : EReal) := by
  simp [Ideal.ofBits, Ideal.ieee, -EReal.coe_mul]; norm_num

theorem log2_pos : (0 : ℝ) < Real.log 2 := Real.log_pos (by norm_num)

/-- The three fields of a pattern with an exponent and nothing else set. -/
theorem shift_fields : ∀ n : Fin 255,
    ((BitVec.ofNat 32 n.val <<< 23).extractLsb' 0 23).toNat = 0
    ∧ ((BitVec.ofNat 32 n.val <<< 23).extractLsb' 23 8).toNat = n.val
    ∧ ((BitVec.ofNat 32 n.val <<< 23).extractLsb' (8 + 23) 1 == 1#1) = false := by decide +kernel

/-- The word operations of the two patterns, at every clamped exponent. -/
theorem shift_words : ∀ k : Fin 253,
    IntOp.cmpi .eq (BitVec.ofNat 32 k.val <<< 23) 0#32 = (if k.val = 0 then 1#1 else 0#1)
    ∧ IntOp.addi (BitVec.ofNat 32 k.val <<< 23) 8388608#32 = BitVec.ofNat 32 (k.val + 1) <<< 23
    ∧ IntOp.subi 2122317824#32 (BitVec.ofNat 32 k.val <<< 23) = BitVec.ofNat 32 (253 - k.val) <<< 23 := by decide +kernel

/-- A pattern with exponent field `n`, between 1 and 254, and nothing else set denotes `2 ^ (n - 127)`. -/
theorem ofBits_shift (n : ℕ) (h1 : 1 ≤ n) (h2 : n ≤ 254) :
    Ideal.ofBits .f32 (BitVec.ofNat 32 n <<< 23) = (((2 : ℝ) ^ ((n : ℤ) - 127) : ℝ) : EReal) := by
  obtain ⟨hfr, hex, hsg⟩ := shift_fields ⟨n, by omega⟩
  dsimp only at hfr hex hsg
  have hne : n ≠ 2 ^ 8 - 1 := by omega
  have h0 : n ≠ 0 := by omega
  simp only [Ideal.ofBits, Ideal.ieee, hfr, hex, hsg, if_neg hne, if_neg h0, Bool.false_eq_true, if_false]
  have h127 : (n : ℤ) - (2 ^ (8 - 1) - 1) - ((23 : ℕ) : ℤ) = ((n : ℤ) - 127) + (-23) := by norm_num; ring
  have h23 : (1 : ℝ) * ((2 ^ 23 + 0 : ℕ) : ℝ) * (2 : ℝ) ^ (-23 : ℤ) = 1 := by norm_num
  rw [EReal.coe_eq_coe_iff, h127, zpow_add₀ two_ne_zero, mul_comm ((2 : ℝ) ^ ((n : ℤ) - 127)), ← mul_assoc, h23, one_mul]

theorem toBits (k : ℕ) (hk : k ≤ 252) : Ideal.fptosi 32 (((k : ℝ)) : EReal) = BitVec.ofNat 32 k := by
  have h : (if (0 : ℝ) ≤ (k : ℝ) then ⌊(k : ℝ)⌋ else ⌈(k : ℝ)⌉) = (k : ℤ) := by
    rw [if_pos (Nat.cast_nonneg k), Int.floor_natCast]
  unfold Ideal.fptosi
  rw [Ideal.toIntClamped_coe, h]
  rw [min_eq_right (by norm_num; omega), max_eq_right (by norm_num)]
  rfl

/-- The kernel's pattern when its clamped exponent is the natural number `k`. -/
theorem of_exp (t : EReal) (k : ℕ) (hk : k ≤ 252)
    (h : min ((252 : ℝ) : EReal) (max (0 : EReal) (Ideal.liftRound Int.floor (Ideal.div (Ideal.log t) ln2) + ((127 : ℝ) : EReal))) = ((k : ℝ) : EReal)) :
    kScale t = (if k = 0 then 1 else (((2 : ℝ) ^ ((k : ℤ) - 126) : ℝ) : EReal))
    ∧ kInv t = (if k = 0 then 1 else (((2 : ℝ) ^ (126 - (k : ℤ)) : ℝ) : EReal)) := by
  have hb : expBits t = BitVec.ofNat 32 k <<< 23 := by
    unfold expBits
    rw [ofBits_252, ofBits_zero, ofBits_127, h, toBits k hk]
    rfl
  obtain ⟨hz, ha, hs⟩ := shift_words ⟨k, by omega⟩
  dsimp only at hz ha hs
  unfold kScale kInv
  rw [hb, hz, ha, hs, ofBits_one, ofBits_shift _ (by omega) (by omega), ofBits_shift _ (by omega) (by omega)]
  by_cases h0 : k = 0
  · simp only [h0, if_true]; exact ⟨ValueIdx.select_one _ _, ValueIdx.select_one _ _⟩
  · simp only [h0, if_false]
    rw [ValueIdx.select_zero, ValueIdx.select_zero]
    refine ⟨?_, ?_⟩
    · rw [show ((k + 1 : ℕ) : ℤ) - 127 = (k : ℤ) - 126 by push_cast; ring]
    · rw [show ((253 - k : ℕ) : ℤ) - 127 = 126 - (k : ℤ) by rw [Nat.cast_sub (by omega)]; push_cast; ring]

theorem exp2_zpow (n : ℤ) : Ideal.exp2 (((n : ℝ)) : EReal) = (((2 : ℝ) ^ n : ℝ) : EReal) := by
  rw [Ideal.exp2_coe]; congr 1; exact Real.rpow_intCast 2 n

theorem of_rexp (t : EReal) (n : ℤ) (h : rExp t = ((n : ℝ) : EReal)) :
    rScale t = (((2 : ℝ) ^ n : ℝ) : EReal) ∧ rInv t = (((2 : ℝ) ^ (-n) : ℝ) : EReal) := by
  unfold rScale rInv
  rw [h, ofBits_zero, zero_sub, exp2_zpow, ← EReal.coe_neg, ← Int.cast_neg, exp2_zpow]
  exact ⟨rfl, rfl⟩

theorem rExp_small (t : EReal) (h : t < (((2 : ℝ) ^ (-126 : ℤ) : ℝ) : EReal)) : rExp t = (((0 : ℤ) : ℝ) : EReal) := by
  unfold rExp
  rw [ofBits_tiny, ofBits_zero]
  have : Ideal.cmp .olt t (((2 : ℝ) ^ (-126 : ℤ) : ℝ) : EReal) = 1#1 := by
    simp only [Ideal.cmp, h, decide_true]; rfl
  rw [this, ValueIdx.select_one]; simp

theorem rExp_big (t : EReal) (h : ¬ t < (((2 : ℝ) ^ (-126 : ℤ) : ℝ) : EReal)) :
    rExp t = min (Ideal.liftRound Int.floor (Ideal.div (Ideal.log t) ln2) + ((1 : ℝ) : EReal)) ((126 : ℝ) : EReal) := by
  unfold rExp
  rw [ofBits_tiny, ofBits_zero, ofBits_one, ofBits_126]
  have : Ideal.cmp .olt t (((2 : ℝ) ^ (-126 : ℤ) : ℝ) : EReal) = 0#1 := by
    simp only [Ideal.cmp, h, decide_false]; rfl
  rw [this, ValueIdx.select_zero]

theorem log2_coe (r : ℝ) (h : 0 < r) :
    Ideal.liftRound Int.floor (Ideal.div (Ideal.log (r : EReal)) ln2) = (((⌊Real.log r / Real.log 2⌋ : ℤ) : ℝ) : EReal) := by
  rw [Ideal.log_coe, if_neg (not_le.mpr h), Ideal.div_coe (ne_of_gt log2_pos), ← EReal.coe_mul, Ideal.liftRound_coe]
  rw [div_eq_mul_one_div (Real.log r)]

theorem log2_bot (t : EReal) (h : Ideal.log t = ⊥) :
    Ideal.liftRound Int.floor (Ideal.div (Ideal.log t) ln2) = ⊥ := by
  rw [h, Ideal.div_coe (ne_of_gt log2_pos), EReal.bot_mul_coe_of_pos (by have := log2_pos; positivity), Ideal.liftRound_bot]

/-- The kernel's scale and inverse scale are the reference's, at every extended real. -/
theorem scale_eq (t : EReal) : kScale t = rScale t ∧ kInv t = rInv t := by
  have htiny : (0 : ℝ) < (2 : ℝ) ^ (-126 : ℤ) := by positivity
  -- where the logarithm is `⊥`, both scales are one
  have hbot : Ideal.log t = ⊥ → t < (((2 : ℝ) ^ (-126 : ℤ) : ℝ) : EReal) → kScale t = rScale t ∧ kInv t = rInv t := by
    intro hl ht
    obtain ⟨a, b⟩ := of_exp t 0 (by omega) (by
      rw [log2_bot t hl, EReal.bot_add, max_eq_left bot_le, min_eq_right (by norm_cast)]; simp)
    obtain ⟨c, d⟩ := of_rexp t 0 (rExp_small t ht)
    rw [a, b, c, d]; simp
  induction t with
  | bot => exact hbot Ideal.log_bot (EReal.bot_lt_coe _)
  | top =>
    obtain ⟨a, b⟩ := of_exp ⊤ 252 (by omega) (by
      rw [Ideal.log_top, Ideal.div_coe (ne_of_gt log2_pos), EReal.top_mul_coe_of_pos (by have := log2_pos; positivity), Ideal.liftRound_top,
        EReal.top_add_coe, max_eq_right le_top, min_eq_left le_top]; norm_num)
    obtain ⟨c, d⟩ := of_rexp ⊤ 126 (by
      rw [rExp_big ⊤ (not_lt.mpr le_top), Ideal.log_top, Ideal.div_coe (ne_of_gt log2_pos),
        EReal.top_mul_coe_of_pos (by have := log2_pos; positivity), Ideal.liftRound_top, EReal.top_add_coe, min_eq_right le_top]; norm_num)
    rw [a, b, c, d]; norm_num
  | coe r =>
    rcases le_or_gt r 0 with h0 | h0
    · exact hbot (by rw [Ideal.log_coe, if_pos h0]) (by rw [EReal.coe_lt_coe_iff]; linarith)
    · have hf := log2_coe r h0
      rcases lt_or_ge r ((2 : ℝ) ^ (-126 : ℤ)) with hs | hs
      · have hlt : ⌊Real.log r / Real.log 2⌋ < -126 := by
          rw [Int.floor_lt]
          have := Real.log_lt_log h0 hs
          rw [Real.log_zpow] at this
          rw [div_lt_iff₀ log2_pos]; exact this
        obtain ⟨a, b⟩ := of_exp r 0 (by omega) (by
          rw [hf, ← EReal.coe_add, max_eq_left, min_eq_right]
          · simp
          · norm_cast
          · rw [← EReal.coe_zero, EReal.coe_le_coe_iff]
            have : ((⌊Real.log r / Real.log 2⌋ : ℤ) : ℝ) ≤ ((-127 : ℤ) : ℝ) := by exact_mod_cast (by omega)
            push_cast at this; linarith)
        obtain ⟨c, d⟩ := of_rexp r 0 (rExp_small r (EReal.coe_lt_coe_iff.mpr hs))
        rw [a, b, c, d]; simp
      · have hge : -126 ≤ ⌊Real.log r / Real.log 2⌋ := by
          rw [Int.le_floor]
          have := Real.log_le_log htiny hs
          rw [Real.log_zpow] at this
          rw [le_div_iff₀ log2_pos]; exact this
        generalize ⌊Real.log r / Real.log 2⌋ = f at hf hge
        have hk : ∃ k : ℕ, k ≤ 252 ∧ k ≠ 0 ∧ (k : ℤ) = min 252 (f + 127) :=
          ⟨(min 252 (f + 127)).toNat, by omega, by omega, by omega⟩
        obtain ⟨k, hk1, hk0, hk2⟩ := hk
        obtain ⟨a, b⟩ := of_exp r k hk1 (by
          rw [hf, ← EReal.coe_add, max_eq_right]
          · rw [← EReal.coe_strictMono.monotone.map_min]
            have : ((k : ℤ) : ℝ) = ((min 252 (f + 127) : ℤ) : ℝ) := by rw [hk2]
            push_cast at this; rw [this]
          · rw [← EReal.coe_zero, EReal.coe_le_coe_iff]
            have : ((-126 : ℤ) : ℝ) ≤ (f : ℝ) := by exact_mod_cast hge
            push_cast at this; linarith)
        obtain ⟨c, d⟩ := of_rexp r ((k : ℤ) - 126) (by
          rw [rExp_big r (not_lt.mpr (EReal.coe_le_coe_iff.mpr hs)), hf, ← EReal.coe_add, ← EReal.coe_strictMono.monotone.map_min]
          have h4 : (k : ℤ) - 126 = min (f + 1) 126 := by omega
          rw [h4, Int.cast_min, Int.cast_add, Int.cast_one, Int.cast_ofNat])
        rw [a, b, c, d, if_neg hk0, if_neg hk0, neg_sub]
        exact ⟨rfl, rfl⟩

end Cert.Scale

end
-- ==== Proof.Quant.lean ====
/- What both programs compute, in plain terms over the extended reals: the normalisation of a row, and the quantisation
   of a group of numbers by one power of two. Each program's arrays are read down to these functions elsewhere. -/
module

public import proofs.«01_k».proof.Proof.Scale

@[expose] public section

noncomputable section

namespace Cert.Quant

open Idealize.ShloMosaic Cert.Scale

/-- One over the length of a row. -/
abbrev invLen : EReal := ((1 / 1152 : ℝ) : EReal)

/-- A row less its mean. -/
def centred (r : Fin 1152 → EReal) (d : Fin 1152) : EReal := r d - (∑ k, r k) * invLen

/-- A row normalised: less its mean, over the square root of its variance plus the small constant. -/
def norm (r : Fin 1152 → EReal) (d : Fin 1152) : EReal :=
  centred r d * Ideal.rsqrt ((∑ k, centred r k * centred r k) * invLen + Ideal.ofBits .f32 0x358637BD#32)

/-- The largest magnitude of a group, over 448. -/
def top {n : ℕ} (v : Fin n → EReal) : EReal :=
  Finset.univ.fold max (Ideal.ofBits .f32 0xFF800000#32) (fun k => max (v k) (-(v k))) * Ideal.ofBits .f32 0x3B124925#32

/-- The scale of a group. -/
def scale {n : ℕ} (v : Fin n → EReal) : EReal := rScale (top v)

/-- The code of one member of a group. -/
def code {n : ℕ} (v : Fin n → EReal) (k : Fin n) : EReal :=
  min (Ideal.ofBits .f32 0x43E00000#32) (max (Ideal.ofBits .f32 0xC3E00000#32) (v k * rInv (top v)))

theorem scale_eq_kernel {n : ℕ} (v : Fin n → EReal) : scale v = kScale (top v) := (scale_eq (top v)).1.symm

theorem code_eq_kernel {n : ℕ} (v : Fin n → EReal) (k : Fin n) : code v k =
    min (Ideal.ofBits .f32 0x43E00000#32) (max (Ideal.ofBits .f32 0xC3E00000#32) (v k * kInv (top v))) := by
  rw [(scale_eq (top v)).2]; rfl

/-- The kernel's exponent field, with its zero spelt as the number. -/
theorem expBits_eq (t : EReal) : expBits t =
    IntOp.shli .vector (Ideal.fptosi 32 (min (Ideal.ofBits .f32 0x437C0000#32) (max 0
      (Ideal.liftRound Int.floor (Ideal.div (Ideal.log t) ln2) + Ideal.ofBits .f32 0x42FE0000#32)))) 23#32 := by
  rw [expBits, ofBits_zero]

/-- The kernel's scale and its inverse, with their one spelt as the number. -/
theorem kScale_eq (t : EReal) : kScale t =
    Scalar.select (IntOp.cmpi .eq (expBits t) 0#32) 1 (Ideal.ofBits .f32 (IntOp.addi (expBits t) 8388608#32)) := by
  rw [kScale, ofBits_one, EReal.coe_one]

theorem kInv_eq (t : EReal) : kInv t =
    Scalar.select (IntOp.cmpi .eq (expBits t) 0#32) 1 (Ideal.ofBits .f32 (IntOp.subi 2122317824#32 (expBits t))) := by
  rw [kInv, ofBits_one, EReal.coe_one]

/-- The modulated weight: one channel's gain against one decoded weight. -/
def weight (g w s : EReal) : EReal := (1 + g) * (w * s)

/-- The pattern of 1152 denotes it. -/
theorem ofBits_len : Ideal.ofBits .f32 0x44900000#32 = ((1152 : ℝ) : EReal) := by
  simp [Ideal.ofBits, Ideal.ieee, -EReal.coe_mul]; norm_num

/-- Dividing by the length of a row is multiplying by its inverse. -/
theorem div_len (x : EReal) : Ideal.div x (Ideal.ofBits .f32 0x44900000#32) = x * invLen := by
  rw [ofBits_len, Ideal.div_coe (by norm_num)]

end Cert.Quant
-- ==== Proof.RowBlock.lean ====
/- One block of 32 rows of the second kernel call: the values stored for it, element by element. -/
module

public import proofs.«01_k».proof.Proof.Gen.KernelIdeal.Skeleton
public import proofs.«01_k».proof.Proof.Quant
public import Idealize.ShloMosaic.Lib.Pointwise

@[expose] public section

set_option maxRecDepth 16384

noncomputable section

namespace Cert.KernelIdeal.RowBlock

open Cert.KernelIdeal.Gen Idealize.ShloMosaic Cert.Quant Cert.Scale

theorem inv_d : Named.named (F := Ideal) κ "inv_d" (φ := .f32) 0x3A638E39#32 = invLen :=
  IdealRules.named_const.ideal_named_scalar _ _ _ _ rfl

theorem named_ln2 : Named.named (F := Ideal) κ "ln2" (φ := .f32) 0x3F317218#32 = ln2 :=
  IdealRules.named_const.ideal_named_scalar _ _ _ _ rfl

/-- The rows normalised. -/
theorem normed (X : Vec Ideal S32x1152 .bf16) (r : Fin 32) (d : Fin 1152) :
    k1_pay2 X (ix2 r d) = norm (fun k => X (ix2 r k)) d := by
  pointwise [k1_pay2]
  simp only [inv_d]
  rfl

/-- The exponent field of each row. -/
theorem field (X : Vec Ideal S32x1152 .bf16) (r : Fin 32) :
    k1_pay3 X (ix2 r 0) = expBits (top (norm fun k => X (ix2 r k))) := by
  pointwise [k1_pay3]
  simp only [named_ln2, normed, expBits_eq]
  rfl

/-- The codes of the block, as a function of its rows. -/
abbrev codes (X : Vec Ideal S32x1152 .bf16) : FVec Ideal S32x1152 .fp8e4m3 := k1_pay5 (k1_pay2 X) (k1_pay3 X) 0#32

/-- The scales of the block, one row's scale along 128 lanes. -/
abbrev scales (X : Vec Ideal S32x1152 .bf16) : FVec Ideal S32x128 .f32 := k1_pay8 (F := Ideal) (k1_pay3 X) 0#32

theorem codes_apply (X : Vec Ideal S32x1152 .bf16) (r : Fin 32) (d : Fin 1152) :
    codes X (ix2 r d) = code (norm fun k => X (ix2 r k)) d := by
  rw [code_eq_kernel, kInv_eq, ← field, ← normed]
  pointwise [codes, k1_pay5, k1_pay4]

theorem stored_apply (X : Vec Ideal S32x1152 .bf16) (z : Fin 1) (r : Fin 32) (d : Fin 1152) :
    k1_pay7 (k1_pay2 X) (k1_pay3 X) 0#32 (ix3 z r d) = code (norm fun k => X (ix2 r k)) d := by
  rw [← codes_apply]
  pointwise [k1_pay7]

theorem kept_apply (X : Vec Ideal S32x1152 .bf16) (r : Fin 32) (d : Fin 1152) :
    k1_pay6 (k1_pay2 X) (k1_pay3 X) 0#32 (ix2 r d) = code (norm fun k => X (ix2 r k)) d := by
  rw [← codes_apply]
  pointwise [k1_pay6]

theorem scales_apply (X : Vec Ideal S32x1152 .bf16) (r : Fin 32) (l : Fin 128) :
    scales X (ix2 r l) = scale (norm fun k => X (ix2 r k)) := by
  rw [scale_eq_kernel, kScale_eq, ← field]
  pointwise [scales, k1_pay8, k1_pay4]

end Cert.KernelIdeal.RowBlock
-- ==== Proof.Family.lean ====
/- A buffer filled by a family of stores whose boxes are told apart by a block number. -/
module

public import Idealize.ShloMosaic.Lib.Pipeline.ValueKit

@[expose] public section

noncomputable section

namespace Cert.Family

open Idealize.ShloMosaic

/-- Reading a buffer after a family of stores, at an element of box `k`: when every element of a box knows the box's
    number, the value is what store `k` put there. -/
theorem canon_family {Val : EltTy → Type} [∀ e, Nonempty (Val e)] {S : Shape} {e : EltTy} {n : ℕ} (R : Fin n → Rect S)
    (pay : (k : Fin n) → (R k).shape.Idx → Val e) (blk : S.Idx → Fin n) (hblk : ∀ k x, blk ((R k).emb x) = k)
    (k : Fin n) (x : (R k).shape.Idx) :
    View.canon ((List.finRange n).map fun k => (⟨R k, pay k⟩ : View.Piece Val S e)).reverse ((R k).emb x) = pay k x := by
  classical
  let G : S.Idx → Val e := fun y =>
    if h : ∃ x, (R (blk y)).emb x = y then pay (blk y) h.choose else Classical.arbitrary _
  have hG : ∀ k x, pay k x = G ((R k).emb x) := by
    intro k x
    have : ∀ y, (R k).emb x = y → pay k x = G y := by
      intro y h
      have hb : blk y = k := by rw [← h, hblk]
      subst hb
      have hx : ∃ x, (R (blk y)).emb x = y := ⟨x, h⟩
      show _ = dite _ _ _
      rw [dif_pos hx]
      congr 1
      exact (R (blk y)).emb.injective (h.trans hx.choose_spec.symm)
    exact this _ rfl
  rw [hG]
  refine View.canon_apply_of_pieces G _ ?_ _ ?_
  · intro p hp x
    simp only [List.mem_reverse, List.mem_map, List.mem_finRange, true_and] at hp
    obtain ⟨k, rfl⟩ := hp
    exact hG k x
  · exact ⟨⟨R k, pay k⟩, List.mem_reverse.mpr (List.mem_map.mpr ⟨k, List.mem_finRange k, rfl⟩), (R k).idx_mem x⟩

/-- The same with the list and the element named. -/
theorem canon_at {Val : EltTy → Type} [∀ e, Nonempty (Val e)] {S : Shape} {e : EltTy} {n : ℕ} (R : Fin n → Rect S)
    (pay : (k : Fin n) → (R k).shape.Idx → Val e) (blk : S.Idx → Fin n) (k : Fin n) (x : (R k).shape.Idx)
    (L : List (View.Piece Val S e)) (y : S.Idx)
    (hL : L = ((List.finRange n).map fun k => (⟨R k, pay k⟩ : View.Piece Val S e)).reverse)
    (hy : ∀ a, (y a).val = ((R k).emb x a).val) (hblk : ∀ k x, blk ((R k).emb x) = k) :
    View.canon L y = pay k x := by
  subst hL
  obtain rfl : y = (R k).emb x := funext fun a => Fin.ext (hy a)
  exact canon_family R pay blk hblk k x

end Cert.Family
-- ==== Proof.Prep.lean ====
/- What the first kernel call stores for a block of 384 columns: for each of the four batches the columns' weights
   modulated by that batch's gains and quantised down the column, and the columns' constants. -/
module

public import proofs.«01_k».proof.Proof.KernelIdealFrame
public import proofs.«01_k».proof.Proof.RowBlock
public import proofs.«01_k».proof.Proof.Family

@[expose] public section

set_option maxRecDepth 16384

noncomputable section

namespace Cert.KernelIdeal.Prep

open Cert Cert.KernelIdeal Cert.KernelIdeal.Gen Cert.KernelIdeal.Run Cert.KernelIdeal.RowBlock Cert.Quant Cert.Scale
open Idealize.ShloMosaic

/-- The decoded weights by their columns' scales. -/
theorem decoded (w : Vec Ideal S1152x384 .fp8e4m3) (s : Vec Ideal S1x384 .f32) (d : Fin 1152) (l : Fin 384) :
    k0_pay4 w s (ix2 d l) = w (ix2 d l) * s (ix2 0 l) := by
  pointwise [k0_pay4, k0_pay3]

/-- One batch's modulated weights. -/
theorem modulated (t : FVec Ideal S1152x384 .f32) (g : Vec Ideal S1152x1 .f32) (d : Fin 1152) (l : Fin 384) :
    k0_pay12 t g (ix2 d l) = (1 + g (ix2 d 0)) * t (ix2 d l) := by
  pointwise [k0_pay12]

/-- The exponent field of each column. -/
theorem field (t : FVec Ideal S1152x384 .f32) (g : Vec Ideal S1152x1 .f32) (l : Fin 384) :
    k0_pay13 t g (ix2 0 l) = expBits (top fun d : Fin 1152 => (1 + g (ix2 d 0)) * t (ix2 d l)) := by
  pointwise [k0_pay13]
  simp only [named_ln2, modulated, expBits_eq]
  rfl

/-- One batch's codes, as stored. -/
abbrev codes (t : FVec Ideal S1152x384 .f32) (g : Vec Ideal S1152x1 .f32) : FVec Ideal S1x1152x384 .fp8e4m3 :=
  k0_pay15 (k0_pay12 t g) (k0_pay13 t g) 0#32

/-- One batch's scales, as stored. -/
abbrev scales (t : FVec Ideal S1152x384 .f32) (g : Vec Ideal S1152x1 .f32) : FVec Ideal S1x1x384 .f32 :=
  k0_pay16 (F := Ideal) (k0_pay13 t g) 0#32

theorem codes_apply (t : FVec Ideal S1152x384 .f32) (g : Vec Ideal S1152x1 .f32) (z : Fin 1) (d : Fin 1152) (l : Fin 384) :
    codes t g (ix3 z d l) = code (fun d : Fin 1152 => (1 + g (ix2 d 0)) * t (ix2 d l)) d := by
  rw [code_eq_kernel, kInv_eq, ← field, ← modulated]
  pointwise [codes, k0_pay15, k0_pay14]

theorem scales_apply (t : FVec Ideal S1152x384 .f32) (g : Vec Ideal S1152x1 .f32) (z z' : Fin 1) (l : Fin 384) :
    scales t g (ix3 z z' l) = scale (fun d : Fin 1152 => (1 + g (ix2 d 0)) * t (ix2 d l)) := by
  rw [scale_eq_kernel, kScale_eq, ← field]
  pointwise [scales, k0_pay16, k0_pay14]

/-- The columns' constants: the shifts through the decoded weights, scaled, plus the bias. -/
theorem const_apply (w : Vec Ideal S1152x384 .fp8e4m3) (h : Vec Ideal S8x1152 .f32) (s b : Vec Ideal S1x384 .f32) (r : Fin 4)
    (z : Fin 1) (l : Fin 384) : k0_pay2 (k0_pay3 w) h s b (ix3 r z l) =
      (∑ d, h (ix2 ⟨r.val, by omega⟩ d) * w (ix2 d l)) * s (ix2 0 l) + b (ix2 0 l) := by
  pointwise [k0_pay2, k0_pay3]

end Cert.KernelIdeal.Prep
-- ==== Proof.PrepBlock.lean ====
/- What the first kernel call's output buffers hold after a block of 384 columns, element by element. -/
module

public import proofs.«01_k».proof.Proof.Prep

@[expose] public section

set_option maxRecDepth 16384

noncomputable section

namespace Cert.KernelIdeal.PrepBlock

open Cert Cert.KernelIdeal Cert.KernelIdeal.Gen Cert.KernelIdeal.Run Cert.KernelIdeal.Prep Cert.Quant
open Idealize.ShloMosaic

theorem inbG (b : Fin 4) : ∀ a, (![0, b.val] : Fin 2 → ℕ) a + S1152x1.size a ≤ S1152x4.size a := by
  decide +revert

theorem inbC (b : Fin 4) : ∀ a, (![b.val, 0, 0] : Fin 3 → ℕ) a + S1x1152x384.size a ≤ S4x1152x384.size a := by
  decide +revert

theorem inbS (b : Fin 4) : ∀ a, (![b.val, 0, 0] : Fin 3 → ℕ) a + S1x1x384.size a ≤ S4x1x384.size a := by
  decide +revert

variable (x0 : Vec Ideal S1152x384 .fp8e4m3) (x1 x2 : Vec Ideal S1x384 .f32) (x3 : Vec Ideal S1152x4 .f32) (x4 : Vec Ideal S8x1152 .f32)

/-- The gains of batch `b`, as loaded. -/
def gains (b : Fin 4) : Vec Ideal S1152x1 .f32 := View.ld x3 (Rect.unit (s := S1152x4) ![0, b.val] S1152x1.size (inbG b))

/-- Where an element of the gains of batch `b` lies in the table of gains. -/
theorem gains_apply (b : Fin 4) (d : Fin 1152) : gains x3 b (ix2 d 0) = x3 (ix2 d b) := by
  show x3 _ = x3 _
  congr 1
  funext a
  apply Fin.ext
  fin_cases a
  · show 0 + 1 * d.val = d.val
    omega
  · show b.val + 1 * 0 = b.val
    omega

/-- The block's decoded weights. -/
def decodedBlock : FVec Ideal S1152x384 .f32 := k0_pay4 (View.ld x0 r0_0) (View.ld x1 r0_1)

theorem ld_codes (d : Fin 1152) (l : Fin 384) : View.ld (Val := Elt Ideal) x0 r0_0 (ix2 d l) = x0 (ix2 d l) := by
  show x0 _ = x0 _
  congr 1
  funext a
  apply Fin.ext
  fin_cases a
  · show 0 + 1 * d.val = d.val
    omega
  · show 0 + 1 * l.val = l.val
    omega

theorem ld_vec (x : Vec Ideal S1x384 .f32) (l : Fin 384) : View.ld (Val := Elt Ideal) x r0_1 (ix2 0 l) = x (ix2 0 l) := by
  show x _ = x _
  congr 1
  funext a
  apply Fin.ext
  fin_cases a
  · rfl
  · show 0 + 1 * l.val = l.val
    omega

theorem ld_shift (r : Fin 8) (d : Fin 1152) : View.ld (Val := Elt Ideal) x4 r0_14 (ix2 r d) = x4 (ix2 r d) := by
  show x4 _ = x4 _
  congr 1
  funext a
  apply Fin.ext
  fin_cases a
  · show 0 + 1 * r.val = r.val
    omega
  · show 0 + 1 * d.val = d.val
    omega

theorem decodedBlock_apply (d : Fin 1152) (l : Fin 384) : decodedBlock x0 x1 (ix2 d l) = x0 (ix2 d l) * x1 (ix2 0 l) := by
  unfold decodedBlock
  rw [decoded, ld_codes, ld_vec]

/-- A column of batch `b`'s modulated weights. -/
theorem column (b : Fin 4) (l : Fin 384) :
    (fun d : Fin 1152 => (1 + gains x3 b (ix2 d 0)) * decodedBlock x0 x1 (ix2 d l)) =
      fun d => weight (x3 (ix2 d b)) (x0 (ix2 d l)) (x1 (ix2 0 l)) := by
  funext d
  rw [gains_apply, decodedBlock_apply]
  rfl

/-- The stores of the four batches' codes, last first. -/
def codePieces : List (View.Piece (Elt Ideal) S4x1152x384 .fp8e4m3) :=
  ((List.finRange 4).map fun b => (⟨Rect.unit (s := S4x1152x384) ![b.val, 0, 0] S1x1152x384.size (inbC b),
    codes (decodedBlock x0 x1) (gains x3 b)⟩ : View.Piece (Elt Ideal) S4x1152x384 .fp8e4m3)).reverse

/-- The stores of their scales. -/
def scalePieces : List (View.Piece (Elt Ideal) S4x1x384 .f32) :=
  ((List.finRange 4).map fun b => (⟨Rect.unit (s := S4x1x384) ![b.val, 0, 0] S1x1x384.size (inbS b),
    scales (decodedBlock x0 x1) (gains x3 b)⟩ : View.Piece (Elt Ideal) S4x1x384 .f32)).reverse

theorem stored_codes : out0_5 (F := Ideal) x0 x1 x2 x3 x4 = View.canon (codePieces x0 x1 x3) := rfl

theorem stored_scales : out0_6 (F := Ideal) x0 x1 x2 x3 x4 = View.canon (scalePieces x0 x1 x3) := rfl

theorem codePieces_eq : codePieces x0 x1 x3 =
    ((List.finRange 4).map fun b => (⟨Rect.unit (s := S4x1152x384) ![b.val, 0, 0] S1x1152x384.size (inbC b),
      codes (decodedBlock x0 x1) (gains x3 b)⟩ : View.Piece (Elt Ideal) S4x1152x384 .fp8e4m3)).reverse := rfl

theorem scalePieces_eq : scalePieces x0 x1 x3 =
    ((List.finRange 4).map fun b => (⟨Rect.unit (s := S4x1x384) ![b.val, 0, 0] S1x1x384.size (inbS b),
      scales (decodedBlock x0 x1) (gains x3 b)⟩ : View.Piece (Elt Ideal) S4x1x384 .f32)).reverse := rfl

/-- The codes. -/
theorem out_codes (b : Fin 4) (d : Fin 1152) (l : Fin 384) : out0_5 (F := Ideal) x0 x1 x2 x3 x4 (ix3 b d l) =
    code (fun d : Fin 1152 => weight (x3 (ix2 d b)) (x0 (ix2 d l)) (x1 (ix2 0 l))) d := by
  rw [stored_codes]
  refine (Family.canon_at (Val := Elt Ideal) (fun b => Rect.unit (s := S4x1152x384) ![b.val, 0, 0] S1x1152x384.size (inbC b))
    (fun b => codes (decodedBlock x0 x1) (gains x3 b)) (fun y : S4x1152x384.Idx => (y 0 : Fin 4)) b (ix3 0 d l) _ _ (codePieces_eq ..) ?_ ?_).trans ?_
  · intro a
    fin_cases a
    · show b.val = b.val + 1 * 0
      omega
    · show d.val = 0 + 1 * d.val
      omega
    · show l.val = 0 + 1 * l.val
      omega
  · intro k x
    have hx : (x 0).val < 1 := (x 0).isLt
    exact Fin.ext (by show k.val + 1 * (x 0).val = k.val; omega)
  · rw [codes_apply, column]

/-- The scales. -/
theorem out_scales (b : Fin 4) (l : Fin 384) : out0_6 (F := Ideal) x0 x1 x2 x3 x4 (ix3 b 0 l) =
    scale (fun d : Fin 1152 => weight (x3 (ix2 d b)) (x0 (ix2 d l)) (x1 (ix2 0 l))) := by
  rw [stored_scales]
  refine (Family.canon_at (Val := Elt Ideal) (fun b => Rect.unit (s := S4x1x384) ![b.val, 0, 0] S1x1x384.size (inbS b))
    (fun b => scales (decodedBlock x0 x1) (gains x3 b)) (fun y : S4x1x384.Idx => (y 0 : Fin 4)) b (ix3 0 0 l) _ _ (scalePieces_eq ..) ?_ ?_).trans ?_
  · intro a
    fin_cases a
    · show b.val = b.val + 1 * 0
      omega
    · rfl
    · show l.val = 0 + 1 * l.val
      omega
  · intro k x
    have hx : (x 0).val < 1 := (x 0).isLt
    exact Fin.ext (by show k.val + 1 * (x 0).val = k.val; omega)
  · rw [scales_apply, column]

/-- The constants. -/
theorem out_consts (b : Fin 4) (l : Fin 384) : out0_7 (F := Ideal) x0 x1 x2 x3 x4 (ix3 b 0 l) =
    (∑ d, x4 (ix2 ⟨b.val, by omega⟩ d) * x0 (ix2 d l)) * x1 (ix2 0 l) + x2 (ix2 0 l) := by
  unfold out0_7
  refine (Family.canon_at (Val := Elt Ideal) (e := .f32) (fun _ : Fin 1 => r0_15)
    (fun _ => k0_pay2 (k0_pay3 (View.ld x0 r0_0)) (View.ld x4 r0_14) (View.ld x1 r0_1) (View.ld x2 r0_1)) (fun _ => 0) 0 (ix3 b 0 l)
    [⟨r0_15, k0_pay2 (k0_pay3 (View.ld x0 r0_0)) (View.ld x4 r0_14) (View.ld x1 r0_1) (View.ld x2 r0_1)⟩] _ rfl ?_ ?_).trans ?_
  · intro a
    fin_cases a
    · show b.val = 0 + 1 * b.val
      omega
    · rfl
    · show l.val = 0 + 1 * l.val
      omega
  · intro k x
    exact (Fin.fin_one_eq_zero k).symm
  · refine (const_apply _ _ _ _ _ _ _).trans ?_
    exact congrArg₂ (· + ·) (congrArg₂ (· * ·) (Finset.sum_congr rfl fun d _ => congrArg₂ (· * ·) (ld_shift x4 ⟨b.val, by omega⟩ d)
      (ld_codes x0 d l)) (ld_vec x1 l)) (ld_vec x2 l)

end Cert.KernelIdeal.PrepBlock
-- ==== Proof.PrepArrays.lean ====
/- The first kernel call's output arrays once its nine blocks of columns are done, element by element. -/
module

public import proofs.«01_k».proof.Proof.PrepBlock

@[expose] public section

set_option maxRecDepth 16384

noncomputable section

namespace Cert.KernelIdeal.PrepArrays

open Cert Cert.KernelIdeal Cert.KernelIdeal.Gen Cert.KernelIdeal.Run Cert.KernelIdeal.PrepBlock Cert.Quant
open Idealize.ShloMosaic Idealize.ShloMosaic.TcCoe Idealize.ShloMosaic.Tactic Idealize.SL.Sem
open Idealize.ShloMosaic.Pipeline (Dat Cfg Window)

/-- Which block each window holds at each point. -/
theorem at0 : ∀ t : Fin cfg0.N, win0_0.index t (0 : Fin 2) = 0 ∧ win0_0.index t (1 : Fin 2) = t.val :=
  (by decide +kernel : ∀ t : Fin grid0.N, _)
theorem at1 : ∀ t : Fin cfg0.N, win0_1.index t (0 : Fin 2) = 0 ∧ win0_1.index t (1 : Fin 2) = t.val :=
  (by decide +kernel : ∀ t : Fin grid0.N, _)
theorem at2 : ∀ t : Fin cfg0.N, win0_2.index t (0 : Fin 2) = 0 ∧ win0_2.index t (1 : Fin 2) = t.val :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 3) = 0 ∧ win0_5.index t (1 : Fin 3) = 0 ∧ win0_5.index t (2 : Fin 3) = t.val :=
  (by decide +kernel : ∀ t : Fin grid0.N, _)
theorem at6 : ∀ t : Fin cfg0.N, win0_6.index t (0 : Fin 3) = 0 ∧ win0_6.index t (1 : Fin 3) = 0 ∧ win0_6.index t (2 : Fin 3) = t.val :=
  (by decide +kernel : ∀ t : Fin grid0.N, _)
theorem at7 : ∀ t : Fin cfg0.N, win0_7.index t (0 : Fin 3) = 0 ∧ win0_7.index t (1 : Fin 3) = 0 ∧ win0_7.index t (2 : Fin 3) = t.val :=
  (by decide +kernel : ∀ t : Fin grid0.N, _)

theorem points (t : Fin cfg0.N) : t.val < 9 := lt_of_lt_of_eq t.isLt (by decide +kernel : grid0.N = 9)

/-- Column `l` of the block of point `t`. -/
def col (t : Fin cfg0.N) (l : Fin 384) : Fin 3456 := ⟨t.val * 384 + l.val, by have := points t; omega⟩

variable (V : (c : Dev nD) → (b : Ref sig .tc) → Buf (Elt Ideal) ((c : Thread nD τ).loc b)) (c : Dev nD)

theorem blk0 (t : Fin cfg0.N) (d : Fin 1152) (l : Fin 384) : iblk0 V c 0 t (ix2 d l) = V c main_arg3 (ix2 d (col t l)) := by
  obtain ⟨e0, e1⟩ := at0 t
  show V c main_arg3 (((cfg0.win 0).blk t).view.emb (ix2 d l)) = _
  congr 1
  funext a
  apply Fin.ext
  fin_cases a
  · show win0_0.index t (0 : Fin 2) * 1152 + 1 * d.val = d.val
    omega
  · show win0_0.index t (1 : Fin 2) * 384 + 1 * l.val = t.val * 384 + l.val
    omega

theorem blk1 (t : Fin cfg0.N) (l : Fin 384) : iblk0 V c 1 t (ix2 0 l) = V c main_v2 (ix2 0 (col t l)) := by
  obtain ⟨e0, e1⟩ := at1 t
  show V c main_v2 (((cfg0.win 1).blk t).view.emb (ix2 0 l)) = _
  congr 1
  funext a
  apply Fin.ext
  fin_cases a
  · show win0_1.index t (0 : Fin 2) * 1 + 1 * 0 = 0
    omega
  · show win0_1.index t (1 : Fin 2) * 384 + 1 * l.val = t.val * 384 + l.val
    omega

theorem blk2 (t : Fin cfg0.N) (l : Fin 384) : iblk0 V c 2 t (ix2 0 l) = V c main_v3 (ix2 0 (col t l)) := by
  obtain ⟨e0, e1⟩ := at2 t
  show V c main_v3 (((cfg0.win 2).blk t).view.emb (ix2 0 l)) = _
  congr 1
  funext a
  apply Fin.ext
  fin_cases a
  · show win0_2.index t (0 : Fin 2) * 1 + 1 * 0 = 0
    omega
  · show win0_2.index t (1 : Fin 2) * 384 + 1 * l.val = t.val * 384 + l.val
    omega

theorem blk3 (t : Fin cfg0.N) (d : Fin 1152) (b : Fin 4) : iblk0 V c 3 t (ix2 d b) = V c main_v0 (ix2 d b) := by
  obtain ⟨e0, e1⟩ := at3 t
  show V c main_v0 (((cfg0.win 3).blk t).view.emb (ix2 d b)) = _
  congr 1
  funext a
  apply Fin.ext
  fin_cases a
  · show win0_3.index t (0 : Fin 2) * 1152 + 1 * d.val = d.val
    omega
  · show win0_3.index t (1 : Fin 2) * 4 + 1 * b.val = b.val
    omega

theorem blk4 (t : Fin cfg0.N) (r : Fin 8) (d : Fin 1152) : iblk0 V c 4 t (ix2 r d) = V c main_v1 (ix2 r d) := by
  obtain ⟨e0, e1⟩ := at4 t
  show V c main_v1 (((cfg0.win 4).blk t).view.emb (ix2 r d)) = _
  congr 1
  funext a
  apply Fin.ext
  fin_cases a
  · show win0_4.index t (0 : Fin 2) * 8 + 1 * r.val = r.val
    omega
  · show win0_4.index t (1 : Fin 2) * 1152 + 1 * d.val = d.val
    omega

theorem place5 (t : Fin cfg0.N) (b : Fin 4) (d : Fin 1152) (l : Fin 384) :
    ((cfg0.win 5).blk t).view.emb (ix3 b d l) = ix3 b d (col t l) := by
  obtain ⟨e0, e1, e2⟩ := at5 t
  funext a
  apply Fin.ext
  fin_cases a
  · show win0_5.index t (0 : Fin 3) * 4 + 1 * b.val = b.val
    omega
  · show win0_5.index t (1 : Fin 3) * 1152 + 1 * d.val = d.val
    omega
  · show win0_5.index t (2 : Fin 3) * 384 + 1 * l.val = t.val * 384 + l.val
    omega

theorem place6 (t : Fin cfg0.N) (b : Fin 4) (l : Fin 384) :
    ((cfg0.win 6).blk t).view.emb (ix3 b 0 l) = ix3 b 0 (col t l) := by
  obtain ⟨e0, e1, e2⟩ := at6 t
  funext a
  apply Fin.ext
  fin_cases a
  · show win0_6.index t (0 : Fin 3) * 4 + 1 * b.val = b.val
    omega
  · show win0_6.index t (1 : Fin 3) * 1 + 1 * 0 = 0
    omega
  · show win0_6.index t (2 : Fin 3) * 384 + 1 * l.val = t.val * 384 + l.val
    omega

theorem place7 (t : Fin cfg0.N) (b : Fin 4) (l : Fin 384) :
    ((cfg0.win 7).blk t).view.emb (ix3 b 0 l) = ix3 b 0 (col t l) := by
  obtain ⟨e0, e1, e2⟩ := at7 t
  funext a
  apply Fin.ext
  fin_cases a
  · show win0_7.index t (0 : Fin 3) * 4 + 1 * b.val = b.val
    omega
  · show win0_7.index t (1 : Fin 3) * 1 + 1 * 0 = 0
    omega
  · show win0_7.index t (2 : Fin 3) * 384 + 1 * l.val = t.val * 384 + l.val
    omega

/-- An element of a block of 384 columns with one row a batch is a batch's and a column's. -/
theorem vec_idx (y : S4x1x384.Idx) : ∃ (b : Fin 4) (l : Fin 384), y = ix3 b 0 l := by
  refine ⟨y 0, y 2, ?_⟩
  funext a
  fin_cases a
  · rfl
  · exact Fin.ext (by have h : (y 1).val < 1 := (y 1).isLt; show (y 1).val = 0; omega)
  · rfl

/-- Column `n` of batch `b`'s modulated weights, from the arrays the call reads. -/
def column (b : Fin 4) (n : Fin 3456) (d : Fin 1152) : EReal :=
  weight (V c main_v0 (ix2 d b)) (V c main_arg3 (ix2 d n)) (V c main_v2 (ix2 0 n))

theorem column_blk (t : Fin cfg0.N) (b : Fin 4) (l : Fin 384) :
    (fun d : Fin 1152 => weight (iblk0 V c 3 t (ix2 d b)) (iblk0 V c 0 t (ix2 d l)) (iblk0 V c 1 t (ix2 0 l))) =
      column V c b (col t l) := by
  funext d
  rw [blk0, blk1, blk3]
  rfl

/-- A column's constant: the shift's product with the raw codes, scaled, and the bias. -/
def offset (u w : Fin 1152 → EReal) (s b : EReal) : EReal := (∑ d, u d * w d) * s + b

/-- The constant of column `n` of batch `b`, from the arrays the call reads. -/
def const (b : Fin 4) (n : Fin 3456) : EReal :=
  offset (fun d => V c main_v1 (ix2 ⟨b.val, by omega⟩ d)) (fun d => V c main_arg3 (ix2 d n)) (V c main_v2 (ix2 0 n)) (V c main_v3 (ix2 0 n))

/-- What each output array holds at the end. -/
def codesAt : S4x1152x3456.Idx → EReal := fun i => code (column V c (i 0) (i 2)) (i 1)
def scalesAt : S4x1x3456.Idx → EReal := fun i => scale (column V c (i 0) (i 2))
def constsAt : S4x1x3456.Idx → EReal := fun i => const V c (i 0) (i 2)

theorem codes_block (t : Fin cfg0.N) (y : S4x1152x384.Idx) :
    (dat0 V c).after 5 t y = codesAt V c (((cfg0.win 5).blk t).view.emb y) := by
  obtain ⟨b, d, l, rfl⟩ : ∃ (b : Fin 4) (d : Fin 1152) (l : Fin 384), y = ix3 b d l := ⟨y 0, y 1, y 2, by funext a; fin_cases a <;> rfl⟩
  rw [after0_5]
  refine (PrepBlock.out_codes _ _ _ _ _ b d l).trans ?_
  rw [column_blk]
  exact (congrArg (codesAt V c) (place5 t b d l)).symm

theorem scales_block (t : Fin cfg0.N) (y : S4x1x384.Idx) :
    (dat0 V c).after 6 t y = scalesAt V c (((cfg0.win 6).blk t).view.emb y) := by
  obtain ⟨b, l, rfl⟩ := vec_idx y
  rw [after0_6]
  refine (PrepBlock.out_scales _ _ _ _ _ b l).trans ?_
  rw [column_blk]
  exact (congrArg (scalesAt V c) (place6 t b l)).symm

theorem consts_block (t : Fin cfg0.N) (y : S4x1x384.Idx) :
    (dat0 V c).after 7 t y = constsAt V c (((cfg0.win 7).blk t).view.emb y) := by
  obtain ⟨b, l, rfl⟩ := vec_idx y
  rw [after0_7]
  refine (PrepBlock.out_consts _ _ _ _ _ b l).trans ?_
  refine Eq.trans ?_ (congrArg (constsAt V c) (place7 t b l)).symm
  rw [blk1, blk2]
  refine congrArg₂ (· + ·) (congrArg₂ (· * ·) (Finset.sum_congr rfl fun d _ => ?_) rfl) rfl
  rw [blk0, blk4]
  rfl

/-- The array of codes. -/
theorem codes_array : (dat0 V c).arrAt 5 cfg0.N = codesAt V c := by
  refine (dat0 V c).arrAt_eq_of_covers 5 (codesAt V c) (by decide +kernel) fun t _ y => ?_
  blk_simp
  exact codes_block V c t y

/-- The array of scales. -/
theorem scales_array : (dat0 V c).arrAt 6 cfg0.N = scalesAt V c := by
  refine (dat0 V c).arrAt_eq_of_covers 6 (scalesAt V c) (by decide +kernel) fun t _ y => ?_
  blk_simp
  exact scales_block V c t y

/-- The array of constants. -/
theorem consts_array : (dat0 V c).arrAt 7 cfg0.N = constsAt V c := by
  refine (dat0 V c).arrAt_eq_of_covers 7 (constsAt V c) (by decide +kernel) fun t _ y => ?_
  blk_simp
  exact consts_block V c t y

end Cert.KernelIdeal.PrepArrays
-- ==== Proof.RowPieces.lean ====
/- What the second kernel call stores while it walks its 512 rows in 16 blocks of 32: each family of stores is one
   function of the block's number, so what the buffers hold afterwards is read off at any element. -/
module

public import proofs.«01_k».proof.Proof.KernelIdealFrame
public import proofs.«01_k».proof.Proof.RowBlock
public import proofs.«01_k».proof.Proof.Family

@[expose] public section

set_option maxRecDepth 16384

noncomputable section

namespace Cert.KernelIdeal.RowPieces

open Cert Cert.KernelIdeal Cert.KernelIdeal.Gen Cert.KernelIdeal.Run Cert.KernelIdeal.RowBlock Cert.Quant
open Idealize.ShloMosaic Idealize.ShloMosaic.TcCoe Idealize.ShloMosaic.Tactic Idealize.SL.Sem

/-- A block of 32 rows lies in the 512. -/
theorem inb (k : Fin 16) : ∀ a, (![32 * k.val, 0] : Fin 2 → ℕ) a + S32x1152.size a ≤ S512x1152.size a := by
  decide +revert

/-- A block of 32 rows lies in the 512, the leading axis of length one kept. -/
theorem inb3 (k : Fin 16) : ∀ a, (![0, 32 * k.val, 0] : Fin 3 → ℕ) a + S1x32x1152.size a ≤ S1x512x1152.size a := by
  decide +revert

/-- The same for the 128 lanes of scales. -/
theorem inbS (k : Fin 16) : ∀ a, (![32 * k.val, 0] : Fin 2 → ℕ) a + S32x128.size a ≤ S512x128.size a := by
  decide +revert

/-- The box block `k` of rows is loaded through: the whole memref's, the leading axis of length one kept. -/
abbrev box (k : Fin 16) : LoadRect S1x512x1152 :=
  (Rect.unit ![0, 0, 0] S1x512x1152.size inb_S1x512x1152_S1x512x1152_0_0_0).withinL
    ((Rect.unit (s := S512x1152) ![32 * k.val, 0] S32x1152.size (inb k)).toLoadRect.consLift ![1, 512, 1152] rfl
      (by intro i; fin_cases i <;> rfl)) (by decide)

/-- Block `k` of rows as the kernel loads it. -/
def rows (M : Memref sig .tc .vmem S1x512x1152 .bf16) (hM : M.IsWhole) (x : Vec Ideal S1x512x1152 .bf16) (k : Fin 16) :
    Vec Ideal S32x1152 .bf16 :=
  LoadRect.valAlong (lr := (Rect.unit (s := S512x1152) ![32 * k.val, 0] S32x1152.size (inb k)).toLoadRect)
    (LR := box k) (LoadRect.numel_consLift _ ![1, 512, 1152] rfl (by intro i; fin_cases i <;> rfl))
    (View.readAt (Elt Ideal) M.view (box k) (hM.unread x))

theorem load_apply (M : Memref sig .tc .vmem S1x512x1152 .bf16) (hM : M.IsWhole) (x : Vec Ideal S1x512x1152 .bf16)
    (k : Fin 16) (q : S1x32x1152.Idx) : View.readAt (Elt Ideal) M.view (box k) (hM.unread x) q =
      x (ix3 0 ⟨32 * k.val + (q 1).val, by have := (q 1).isLt; simp at this; omega⟩ (q 2)) := by
  refine (View.readAt_apply (box k) (hM.unread x) q).trans ?_
  rw [hM.read_unread]
  congr 1
  funext a
  apply Fin.ext
  refine (LoadRect.idx_apply (box k) q a).trans ?_
  have hq : (q 0).val < 1 := (q 0).isLt
  fin_cases a
  · show 0 + 0 + 1 * (q 0).val = 0
    omega
  · show 0 + 32 * k.val + 1 * (q 1).val = 32 * k.val + (q 1).val
    omega
  · show 0 + 0 + 1 * (q 2).val = (q 2).val
    omega

theorem rows_apply (M : Memref sig .tc .vmem S1x512x1152 .bf16) (hM : M.IsWhole) (x : Vec Ideal S1x512x1152 .bf16)
    (k : Fin 16) (r : Fin 32) (d : Fin 1152) :
    rows M hM x k (ix2 r d) = x (ix3 0 ⟨32 * k.val + r.val, by omega⟩ d) := by
  have h : rows M hM x k = shapeCast S32x1152 (fun j : S1x32x1152.Idx =>
      x (ix3 0 ⟨32 * k.val + (j 1).val, by have := (j 1).isLt; simp at this; omega⟩ (j 2)))
      (by decide : S1x32x1152.ShapeCasts S32x1152) := by
    funext j
    exact load_apply M hM x k (Shape.reshapeEquiv (by decide : S32x1152.numel = S1x32x1152.numel) j)
  rw [h]
  pointwise

variable (c : Dev nD) (i : grid1.Coords) (arg2 : Memref sig .tc .vmem S1x512x1152 .bf16) (harg2 : arg2.IsWhole)
  (x0 : Vec Ideal S1x512x1152 .bf16)

theorem scratch_codes : kernelRun1_A.sl.HS0_16 (F := Ideal) c arg2 harg2 x0 =
    ((List.finRange 16).map fun k => (⟨Rect.unit (s := S512x1152) ![32 * k.val, 0] S32x1152.size (inb k),
      k1_pay6 (k1_pay2 (rows arg2 harg2 x0 k)) (k1_pay3 (rows arg2 harg2 x0 k)) 0#32⟩ :
        View.Piece (Elt Ideal) S512x1152 .fp8e4m3)).reverse := rfl

theorem scratch_scales : kernelRun1_A.sl.HS1_16 (F := Ideal) c arg2 harg2 x0 =
    ((List.finRange 16).map fun k => (⟨Rect.unit (s := S512x128) ![32 * k.val, 0] S32x128.size (inbS k),
      scales (rows arg2 harg2 x0 k)⟩ : View.Piece (Elt Ideal) S512x128 .f32)).reverse := rfl

variable (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (arg10 : Memref sig .tc .vmem S512x128 .f32) (harg10 : arg10.IsWhole)
    (x1 : Vec Ideal S1x1152x3456 .fp8e4m3) (x2 : Vec Ideal S1x1x3456 .f32) (x3 : Vec Ideal S1x1x3456 .f32)

theorem stored_codes : (kernelRun1_A (F := Ideal) c i arg2 harg2 arg3 harg3 arg4 harg4 arg5 harg5 arg6 harg6 arg7 harg7 arg8 harg8 arg9 harg9 arg10 harg10 x0 x1 x2 x3).2.1 =
    ((List.finRange 16).map fun k => (⟨Rect.unit (s := S1x512x1152) ![0, 32 * k.val, 0] S1x32x1152.size (inb3 k),
      k1_pay7 (k1_pay2 (rows arg2 harg2 x0 k)) (k1_pay3 (rows arg2 harg2 x0 k)) 0#32⟩ :
        View.Piece (Elt Ideal) S1x512x1152 .fp8e4m3)).reverse := rfl

/-- Row `r` of the 512 is row `r % 32` of block `r / 32`. -/
theorem split (r : Fin 512) : ∃ (k : Fin 16) (q : Fin 32), r = ⟨32 * k.val + q.val, by omega⟩ :=
  ⟨⟨r.val / 32, by omega⟩, ⟨r.val % 32, by omega⟩, Fin.ext (by show r.val = 32 * (r.val / 32) + r.val % 32; omega)⟩

/-- The block a row of the 512 lies in. -/
def block (r : Fin 512) : Fin 16 := ⟨r.val / 32, by omega⟩

theorem block_of (k : Fin 16) (q : Fin 32) (r : Fin 512) (h : r.val = 32 * k.val + q.val) : block r = k :=
  Fin.ext (by show r.val / 32 = k.val; omega)

/-- The quantised codes the scratch holds once the blocks are done. -/
theorem canon_codes (r : Fin 512) (d : Fin 1152) :
    View.canon (kernelRun1_A.sl.HS0_16 (F := Ideal) c arg2 harg2 x0) (ix2 r d) = code (norm fun k => x0 (ix3 0 r k)) d := by
  obtain ⟨k, q, rfl⟩ := split r
  refine (Family.canon_at (Val := Elt Ideal) (fun k => Rect.unit (s := S512x1152) ![32 * k.val, 0] S32x1152.size (inb k)) (fun k => k1_pay6 (k1_pay2 (rows arg2 harg2 x0 k)) (k1_pay3 (rows arg2 harg2 x0 k)) 0#32) (fun y => block (y 0)) k (ix2 q d) _ _ (scratch_codes ..) ?_ ?_).trans ?_
  · intro a
    fin_cases a
    · show 32 * k.val + q.val = 32 * k.val + 1 * q.val
      omega
    · show d.val = 0 + 1 * d.val
      omega
  · intro k x
    exact block_of k (x 0) _ (by show 32 * k.val + 1 * (x 0).val = _; omega)
  · rw [kept_apply]
    simp only [rows_apply]

/-- The scales the other scratch holds, each along its 128 lanes. -/
theorem canon_scales (r : Fin 512) (l : Fin 128) :
    View.canon (kernelRun1_A.sl.HS1_16 (F := Ideal) c arg2 harg2 x0) (ix2 r l) = scale (norm fun k => x0 (ix3 0 r k)) := by
  obtain ⟨k, q, rfl⟩ := split r
  refine (Family.canon_at (Val := Elt Ideal) (fun k => Rect.unit (s := S512x128) ![32 * k.val, 0] S32x128.size (inbS k)) (fun k => scales (rows arg2 harg2 x0 k)) (fun y => block (y 0)) k (ix2 q l) _ _ (scratch_scales ..) ?_ ?_).trans ?_
  · intro a
    fin_cases a
    · show 32 * k.val + q.val = 32 * k.val + 1 * q.val
      omega
    · show l.val = 0 + 1 * l.val
      omega
  · intro k x
    exact block_of k (x 0) _ (by show 32 * k.val + 1 * (x 0).val = _; omega)
  · rw [scales_apply]
    simp only [rows_apply]

/-- The codes the output's buffer holds. -/
theorem out_codes (r : Fin 512) (d : Fin 1152) :
    out1_A_5 (F := Ideal) c i arg2 harg2 arg3 harg3 arg4 harg4 arg5 harg5 arg6 harg6 arg7 harg7 arg8 harg8 arg9 harg9 arg10 harg10 x0 x1 x2 x3 (ix3 0 r d)
      = code (norm fun k => x0 (ix3 0 r k)) d := by
  obtain ⟨k, q, rfl⟩ := split r
  unfold out1_A_5
  rw [View.read_writes_junk_eq_canon]
  refine (Family.canon_at (Val := Elt Ideal) (fun k => Rect.unit (s := S1x512x1152) ![0, 32 * k.val, 0] S1x32x1152.size (inb3 k)) (fun k => k1_pay7 (k1_pay2 (rows arg2 harg2 x0 k)) (k1_pay3 (rows arg2 harg2 x0 k)) 0#32) (fun y => block (y 1)) k (ix3 0 q d) _ _ (stored_codes ..) ?_ ?_).trans ?_
  · intro a
    fin_cases a
    · rfl
    · show 32 * k.val + q.val = 32 * k.val + 1 * q.val
      omega
    · show d.val = 0 + 1 * d.val
      omega
  · intro k x
    exact block_of k (x 1) _ (by show 32 * k.val + 1 * (x 1).val = _; omega)
  · rw [stored_apply]
    simp only [rows_apply]

end Cert.KernelIdeal.RowPieces
-- ==== Proof.ScaleRow.lean ====
/- The row scales the second kernel call puts out: four runs of 128, each the diagonal of a square of the scratch. -/
module

public import proofs.«01_k».proof.Proof.RowPieces

@[expose] public section

set_option maxRecDepth 16384

noncomputable section

namespace Cert.KernelIdeal.ScaleRow

open Cert Cert.KernelIdeal Cert.KernelIdeal.Gen Cert.KernelIdeal.Run Cert.KernelIdeal.RowPieces Cert.Quant
open Idealize.ShloMosaic Idealize.ShloMosaic.TcCoe Idealize.ShloMosaic.Tactic Idealize.SL.Sem

/-- A square of 128 rows lies in the scratch of scales. -/
theorem inbD (k : Fin 4) : ∀ a, (![128 * k.val, 0] : Fin 2 → ℕ) a + S128x128.size a ≤ S512x128.size a := by
  decide +revert

/-- A run of 128 lies in the row of 512. -/
theorem inbR (k : Fin 4) : ∀ a, (![0, 128 * k.val] : Fin 2 → ℕ) a + (![1, 128] : Fin 2 → ℕ) a ≤ (![1, 512] : Fin 2 → ℕ) a := by
  decide +revert

/-- The whole of the output's buffer. -/
theorem inbW : ∀ a, (![0, 0, 0, 0] : Fin 4 → ℕ) a + (![1, 1, 1, 512] : Fin 4 → ℕ) a ≤ S1x1x1x512.size a := by decide

/-- The box run `k` is stored through: the leading axes of length one kept. -/
abbrev run (k : Fin 4) : Rect S1x1x1x512 :=
  (Rect.unit (s := S1x1x1x512) ![0, 0, 0, 0] ![1, 1, 1, 512] inbW).within
    (((Rect.unit (s := ⟨2, ![1, 512]⟩) ![0, 128 * k.val] ![1, 128] (inbR k)).consLift ![1, 1, 512] rfl
      (by intro i; fin_cases i <;> rfl)).consLift ![1, 1, 1, 512] rfl (by intro i; fin_cases i <;> rfl)) (by decide)

/-- A square's diagonal, as the kernel takes it: everything off it made zero, each column added up. -/
def diag (S : Vec Ideal S128x128 .f32) : FVec Ideal S1x128 .f32 :=
  shapeCast S1x128 (multiReduction .add [0] S128 (select (cmpi .eq (iota Kind.tc S128x128 32 [1] iota_S128x128_d1_w32)
    (iota Kind.tc S128x128 32 [0] iota_S128x128_d0_w32)) S (broadcast S128x128 (FloatOps.ofBits (F := Ideal) .f32 0x00000000#32)))
    0#32 (by decide) (by decide) (by decide)) (by decide)

/-- Two lanes' numbers compare equal when the lanes are the same. -/
theorem same_lane : ∀ l x : Fin 128, IntOp.cmpi .eq (BitVec.ofNat 32 l.val) (BitVec.ofNat 32 x.val) = if l = x then 1#1 else 0#1 := by
  decide +kernel

theorem diag_apply (S : Vec Ideal S128x128 .f32) (l : Fin 128) : diag S (ix2 0 l) = S (ix2 l l) := by
  pointwise [diag]
  refine (Finset.sum_eq_single l ?_ ?_).trans ?_
  · intro x _ hx
    rw [same_lane, if_neg (Ne.symm hx)]
    rfl
  · intro h
    exact absurd (Finset.mem_univ l) h
  · rw [same_lane, if_pos rfl]
    rfl

variable (c : Dev nD) (i : grid1.Coords) (arg2 : Memref sig .tc .vmem S1x512x1152 .bf16) (harg2 : arg2.IsWhole)
  (x0 : Vec Ideal S1x512x1152 .bf16) (arg10 : Memref sig .tc .vmem S512x128 .f32)

/-- Square `k` of the scratch of scales. -/
def square (k : Fin 4) : Vec Ideal S128x128 .f32 :=
  arg10.view.readCov (kernelRun1_A.sl.HS1_16 c arg2 harg2 x0) (Rect.unit (s := S512x128) ![128 * k.val, 0] S128x128.size (inbD k)).toLoadRect

theorem square_apply (k : Fin 4) (r l : Fin 128) :
    square c arg2 harg2 x0 arg10 k (ix2 r l) = scale (norm fun d => x0 (ix3 0 ⟨128 * k.val + r.val, by omega⟩ d)) := by
  unfold square
  rw [View.readCov_eq_canon']
  refine Eq.trans ?_ (canon_scales c arg2 harg2 x0 ⟨128 * k.val + r.val, by omega⟩ l)
  show View.canon _ _ = View.canon _ _
  congr 1
  funext a
  apply Fin.ext
  fin_cases a
  · show 128 * k.val + 1 * r.val = 128 * k.val + r.val
    omega
  · show 0 + 1 * l.val = l.val
    omega

/-- What is stored through the box of run `k`. -/
def stored (k : Fin 4) : (run k).shape.Idx → Elt Ideal .f32 :=
  Rect.payAlong (r := Rect.unit (s := ⟨2, ![1, 512]⟩) ![0, 128 * k.val] ![1, 128] (inbR k)) (R := run k)
    (show Shape.numel ⟨4, ![1, 1, 1, 128]⟩ = Shape.numel ⟨2, ![1, 128]⟩ by decide) (diag (square c arg2 harg2 x0 arg10 k))

theorem stored_at (k : Fin 4) (l : Fin 128) :
    stored c arg2 harg2 x0 arg10 k (ix4 0 0 0 l) = scale (norm fun d => x0 (ix3 0 ⟨128 * k.val + l.val, by omega⟩ d)) := by
  have h : stored c arg2 harg2 x0 arg10 k (ix4 0 0 0 l) = shapeCast ⟨4, ![1, 1, 1, 128]⟩ (diag (square c arg2 harg2 x0 arg10 k))
      (by decide) (ix4 0 0 0 l) := rfl
  have h2 : shapeCast ⟨4, ![1, 1, 1, 128]⟩ (diag (square c arg2 harg2 x0 arg10 k))
      (by decide) (ix4 0 0 0 l) = diag (square c arg2 harg2 x0 arg10 k) (ix2 0 l) := by pointwise
  rw [h, h2, diag_apply, square_apply]

variable (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole) (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (arg9 : Memref sig .tc .vmem S512x1152 .fp8e4m3) (harg9 : arg9.IsWhole) (harg10 : arg10.IsWhole)
    (x1 : Vec Ideal S1x1152x3456 .fp8e4m3) (x2 : Vec Ideal S1x1x3456 .f32) (x3 : Vec Ideal S1x1x3456 .f32)

theorem stored_scales : (kernelRun1_A (F := Ideal) c i arg2 harg2 arg3 harg3 arg4 harg4 arg5 harg5 arg6 harg6 arg7 harg7 arg8 harg8 arg9 harg9 arg10 harg10 x0 x1 x2 x3).2.2.1 =
    ((List.finRange 4).map fun k => (⟨run k, stored c arg2 harg2 x0 arg10 k⟩ : View.Piece (Elt Ideal) S1x1x1x512 .f32)).reverse := rfl

/-- The scales the output's buffer holds. -/
theorem out_scales (r : Fin 512) :
    out1_A_6 (F := Ideal) c i arg2 harg2 arg3 harg3 arg4 harg4 arg5 harg5 arg6 harg6 arg7 harg7 arg8 harg8 arg9 harg9 arg10 harg10 x0 x1 x2 x3 (ix4 0 0 0 r)
      = scale (norm fun k => x0 (ix3 0 r k)) := by
  obtain ⟨k, l, rfl⟩ : ∃ (k : Fin 4) (l : Fin 128), r = ⟨128 * k.val + l.val, by omega⟩ :=
    ⟨⟨r.val / 128, by omega⟩, ⟨r.val % 128, by omega⟩, Fin.ext (by show r.val = 128 * (r.val / 128) + r.val % 128; omega)⟩
  unfold out1_A_6
  rw [View.read_writes_junk_eq_canon]
  refine (Family.canon_at (Val := Elt Ideal) run (stored c arg2 harg2 x0 arg10) (fun y => ⟨(y 3).val / 128, by have := (y 3).isLt; simp at this; omega⟩)
    k (ix4 0 0 0 l) _ _ (stored_scales ..) ?_ ?_).trans (stored_at c arg2 harg2 x0 arg10 k l)
  · intro a
    fin_cases a
    · rfl
    · rfl
    · rfl
    · show 128 * k.val + l.val = 0 + 128 * k.val + 1 * l.val
      omega
  · intro k x
    apply Fin.ext
    have hx : (x 3).val < 128 := (x 3).isLt
    show (0 + 128 * k.val + 1 * (x 3).val) / 128 = k.val
    omega

end Cert.KernelIdeal.ScaleRow
-- ==== Proof.Slabs.lean ====
/- The result the second kernel call puts out: 27 slabs of 128 columns, two for each product of 256 columns and one for
   the last product of 128. -/
module

public import proofs.«01_k».proof.Proof.RowPieces

@[expose] public section

set_option maxRecDepth 16384

noncomputable section

namespace Cert.KernelIdeal.Slabs

open Cert Cert.KernelIdeal Cert.KernelIdeal.Gen Cert.KernelIdeal.Run Cert.KernelIdeal.RowPieces Cert.Quant
open Idealize.ShloMosaic Idealize.ShloMosaic.TcCoe Idealize.ShloMosaic.Tactic Idealize.SL.Sem

/-- One element of the result: the row's codes against the column's, by both scales, plus the column's constant. -/
def result (row : Fin 1152 → EReal) (col : Fin 1152 → EReal) (ws c : EReal) : EReal :=
  (∑ d, code (norm row) d * col d) * scale (norm row) * ws + c

theorem inbY (n : ℕ) (hn : n + 128 ≤ 3456) : ∀ a, (![0, 0, n] : Fin 3 → ℕ) a + S1x512x128.size a ≤ S1x512x3456.size a := by
  intro a
  fin_cases a
  · exact Nat.le_refl _
  · exact Nat.le_refl _
  · exact hn

theorem inbV (n : ℕ) (hn : n + 128 ≤ 3456) : ∀ a, (![0, 0, n] : Fin 3 → ℕ) a + S1x1x128.size a ≤ S1x1x3456.size a := by
  intro a
  fin_cases a
  · exact Nat.le_refl _
  · exact Nat.le_refl _
  · exact hn

theorem inbB (n : ℕ) (hn : n + 256 ≤ 3456) : ∀ a, (![0, 0, n] : Fin 3 → ℕ) a + S1x1152x256.size a ≤ S1x1152x3456.size a := by
  intro a
  fin_cases a
  · exact Nat.le_refl _
  · exact Nat.le_refl _
  · exact hn

theorem inbL : ∀ a, (![0, 0, 3328] : Fin 3 → ℕ) a + S1x1152x128.size a ≤ S1x1152x3456.size a := by decide

/-- 128 entries of a vector of 3456, as loaded. -/
def lanes (M : Memref sig .tc .vmem S1x1x3456 .f32) (hM : M.IsWhole) (x : Vec Ideal S1x1x3456 .f32) (n : ℕ) (hn : n + 128 ≤ 3456) :
    Vec Ideal S1x1x128 .f32 :=
  View.readAt (Elt Ideal) M.view (Rect.unit (s := S1x1x3456) ![0, 0, n] S1x1x128.size (inbV n hn)).toLoadRect (hM.unread x)

theorem lanes_apply (M : Memref sig .tc .vmem S1x1x3456 .f32) (hM : M.IsWhole) (x : Vec Ideal S1x1x3456 .f32) (n : ℕ)
    (hn : n + 128 ≤ 3456) (l : Fin 128) : lanes M hM x n hn (ix3 0 0 l) = x (ix3 0 0 ⟨n + l.val, by omega⟩) := by
  refine (View.readAt_apply _ (hM.unread x) _).trans ?_
  rw [hM.read_unread]
  congr 1
  funext a
  apply Fin.ext
  fin_cases a
  · rfl
  · rfl
  · show n + 1 * l.val = n + l.val
    omega

/-- 256 columns of the weights, as loaded. -/
def cols (M : Memref sig .tc .vmem S1x1152x3456 .fp8e4m3) (hM : M.IsWhole) (x : Vec Ideal S1x1152x3456 .fp8e4m3) (n : ℕ)
    (hn : n + 256 ≤ 3456) : Vec Ideal S1x1152x256 .fp8e4m3 :=
  View.readAt (Elt Ideal) M.view (Rect.unit (s := S1x1152x3456) ![0, 0, n] S1x1152x256.size (inbB n hn)).toLoadRect (hM.unread x)

theorem cols_apply (M : Memref sig .tc .vmem S1x1152x3456 .fp8e4m3) (hM : M.IsWhole) (x : Vec Ideal S1x1152x3456 .fp8e4m3)
    (n : ℕ) (hn : n + 256 ≤ 3456) (d : Fin 1152) (l : Fin 256) :
    cols M hM x n hn (ix3 0 d l) = x (ix3 0 d ⟨n + l.val, by omega⟩) := by
  refine (View.readAt_apply _ (hM.unread x) _).trans ?_
  rw [hM.read_unread]
  congr 1
  funext a
  apply Fin.ext
  fin_cases a
  · rfl
  · show 0 + 1 * d.val = d.val
    omega
  · show n + 1 * l.val = n + l.val
    omega

/-- The last 128 columns of the weights, as loaded. -/
def lastCols (M : Memref sig .tc .vmem S1x1152x3456 .fp8e4m3) (hM : M.IsWhole) (x : Vec Ideal S1x1152x3456 .fp8e4m3) :
    Vec Ideal S1x1152x128 .fp8e4m3 :=
  View.readAt (Elt Ideal) M.view (Rect.unit (s := S1x1152x3456) ![0, 0, 3328] S1x1152x128.size inbL).toLoadRect (hM.unread x)

theorem lastCols_apply (M : Memref sig .tc .vmem S1x1152x3456 .fp8e4m3) (hM : M.IsWhole) (x : Vec Ideal S1x1152x3456 .fp8e4m3)
    (d : Fin 1152) (l : Fin 128) : lastCols M hM x (ix3 0 d l) = x (ix3 0 d ⟨3328 + l.val, by omega⟩) := by
  refine (View.readAt_apply _ (hM.unread x) _).trans ?_
  rw [hM.read_unread]
  congr 1
  funext a
  apply Fin.ext
  fin_cases a
  · rfl
  · show 0 + 1 * d.val = d.val
    omega
  · show 3328 + 1 * l.val = 3328 + l.val
    omega

/-- The first half of a product of 256 columns. -/
theorem first_apply (s : Vec Ideal S512x128 .f32) (h : Vec Ideal S512x1152 .fp8e4m3) (w : Vec Ideal S1x1152x256 .fp8e4m3)
    (ws c : Vec Ideal S1x1x128 .f32) (r : Fin 512) (l : Fin 128) : k1_pay163 s h w ws c (ix3 0 r l) =
      (∑ d, h (ix2 r d) * w (ix3 0 d ⟨l.val, by omega⟩)) * s (ix2 r l) * ws (ix3 0 0 l) + c (ix3 0 0 l) := by
  pointwise [k1_pay163, k1_pay162]

/-- The second half of one. -/
theorem second_apply (s : Vec Ideal S512x128 .f32) (h : Vec Ideal S512x1152 .fp8e4m3) (w : Vec Ideal S1x1152x256 .fp8e4m3)
    (ws c : Vec Ideal S1x1x128 .f32) (r : Fin 512) (l : Fin 128) : k1_pay164 s (k1_pay162 h w) ws c (ix3 0 r l) =
      (∑ d, h (ix2 r d) * w (ix3 0 d ⟨128 + l.val, by omega⟩)) * s (ix2 r l) * ws (ix3 0 0 l) + c (ix3 0 0 l) := by
  pointwise [k1_pay164, k1_pay162]

/-- The product of the last 128 columns. -/
theorem last_apply (s : Vec Ideal S512x128 .f32) (h : Vec Ideal S512x1152 .fp8e4m3) (w : Vec Ideal S1x1152x128 .fp8e4m3)
    (ws c : Vec Ideal S1x1x128 .f32) (r : Fin 512) (l : Fin 128) : k1_pay1 (k1_pay214 s h w) (k1_pay215 ws) c (ix3 0 r l) =
      (∑ d, h (ix2 r d) * w (ix3 0 d l)) * s (ix2 r l) * ws (ix3 0 0 l) + c (ix3 0 0 l) := by
  pointwise [k1_pay1, k1_pay214, k1_pay215]

variable (c : Dev nD) (i : grid1.Coords) (arg2 : Memref sig .tc .vmem S1x512x1152 .bf16) (harg2 : arg2.IsWhole)
  (x0 : Vec Ideal S1x512x1152 .bf16) (arg9 : Memref sig .tc .vmem S512x1152 .fp8e4m3) (arg10 : Memref sig .tc .vmem S512x128 .f32)

/-- The codes' scratch, loaded whole. -/
def hcodes : Vec Ideal S512x1152 .fp8e4m3 :=
  arg9.view.readCov (kernelRun1_A.sl.HS0_16 c arg2 harg2 x0) (Rect.unit (s := S512x1152) ![0, 0] S512x1152.size (by decide)).toLoadRect

/-- The scales' scratch, loaded whole. -/
def hscales : Vec Ideal S512x128 .f32 :=
  arg10.view.readCov (kernelRun1_A.sl.HS1_16 c arg2 harg2 x0) (Rect.unit (s := S512x128) ![0, 0] S512x128.size (by decide)).toLoadRect

theorem hcodes_apply (r : Fin 512) (d : Fin 1152) : hcodes c arg2 harg2 x0 arg9 (ix2 r d) = code (norm fun k => x0 (ix3 0 r k)) d := by
  unfold hcodes
  rw [View.readCov_eq_canon']
  refine Eq.trans ?_ (canon_codes c arg2 harg2 x0 r d)
  show View.canon _ _ = View.canon _ _
  congr 1
  funext a
  apply Fin.ext
  fin_cases a
  · show 0 + 1 * r.val = r.val
    omega
  · show 0 + 1 * d.val = d.val
    omega

theorem hscales_apply (r : Fin 512) (l : Fin 128) : hscales c arg2 harg2 x0 arg10 (ix2 r l) = scale (norm fun k => x0 (ix3 0 r k)) := by
  unfold hscales
  rw [View.readCov_eq_canon']
  refine Eq.trans ?_ (canon_scales c arg2 harg2 x0 r l)
  show View.canon _ _ = View.canon _ _
  congr 1
  funext a
  apply Fin.ext
  fin_cases a
  · show 0 + 1 * r.val = r.val
    omega
  · show 0 + 1 * l.val = l.val
    omega

variable (arg3 : Memref sig .tc .vmem S1x1152x3456 .fp8e4m3) (harg3 : arg3.IsWhole) (arg4 : Memref sig .tc .vmem S1x1x3456 .f32) (harg4 : arg4.IsWhole) (arg5 : Memref sig .tc .vmem S1x1x3456 .f32) (harg5 : arg5.IsWhole)
    (x1 : Vec Ideal S1x1152x3456 .fp8e4m3) (x2 : Vec Ideal S1x1x3456 .f32) (x3 : Vec Ideal S1x1x3456 .f32)

/-- The store of the first half of product `j`. -/
def even (j : Fin 13) : View.Piece (Elt Ideal) S1x512x3456 .bf16 :=
  ⟨Rect.unit (s := S1x512x3456) ![0, 0, 256 * j.val] S1x512x128.size (inbY _ (by omega)),
    k1_pay163 (hscales c arg2 harg2 x0 arg10) (hcodes c arg2 harg2 x0 arg9) (cols arg3 harg3 x1 (256 * j.val) (by omega))
      (lanes arg4 harg4 x2 (256 * j.val) (by omega)) (lanes arg5 harg5 x3 (256 * j.val) (by omega))⟩

/-- The store of its second half. -/
def odd (j : Fin 13) : View.Piece (Elt Ideal) S1x512x3456 .bf16 :=
  ⟨Rect.unit (s := S1x512x3456) ![0, 0, 256 * j.val + 128] S1x512x128.size (inbY _ (by omega)),
    k1_pay164 (hscales c arg2 harg2 x0 arg10) (k1_pay162 (hcodes c arg2 harg2 x0 arg9) (cols arg3 harg3 x1 (256 * j.val) (by omega)))
      (lanes arg4 harg4 x2 (256 * j.val + 128) (by omega)) (lanes arg5 harg5 x3 (256 * j.val + 128) (by omega))⟩

/-- The store of the last product. -/
def last : View.Piece (Elt Ideal) S1x512x3456 .bf16 :=
  ⟨Rect.unit (s := S1x512x3456) ![0, 0, 3328] S1x512x128.size (inbY _ (by omega)),
    k1_pay1 (k1_pay214 (hscales c arg2 harg2 x0 arg10) (hcodes c arg2 harg2 x0 arg9) (lastCols arg3 harg3 x1))
      (k1_pay215 (lanes arg4 harg4 x2 3328 (by omega))) (lanes arg5 harg5 x3 3328 (by omega))⟩

variable (arg6 : Memref sig .tc .vmem S1x512x3456 .bf16) (harg6 : arg6.IsWhole) (arg7 : Memref sig .tc .vmem S1x512x1152 .fp8e4m3) (harg7 : arg7.IsWhole) (arg8 : Memref sig .tc .vmem S1x1x1x512 .f32) (harg8 : arg8.IsWhole) (harg9 : arg9.IsWhole) (harg10 : arg10.IsWhole)

theorem stored_result : (kernelRun1_A (F := Ideal) c i arg2 harg2 arg3 harg3 arg4 harg4 arg5 harg5 arg6 harg6 arg7 harg7 arg8 harg8 arg9 harg9 arg10 harg10 x0 x1 x2 x3).1 =
    last c arg2 harg2 x0 arg9 arg10 arg3 harg3 arg4 harg4 arg5 harg5 x1 x2 x3 ::
      (List.finRange 13).reverse.flatMap fun j => [odd c arg2 harg2 x0 arg9 arg10 arg3 harg3 arg4 harg4 arg5 harg5 x1 x2 x3 j,
        even c arg2 harg2 x0 arg9 arg10 arg3 harg3 arg4 harg4 arg5 harg5 x1 x2 x3 j] := rfl

/-- What the output's buffer holds, element by element. -/
def G (x0 : Vec Ideal S1x512x1152 .bf16) (x1 : Vec Ideal S1x1152x3456 .fp8e4m3) (x2 x3 : Vec Ideal S1x1x3456 .f32)
    (y : S1x512x3456.Idx) : EReal :=
  result (fun k => x0 (ix3 0 (y 1) k)) (fun d => x1 (ix3 0 d (y 2))) (x2 (ix3 0 0 (y 2))) (x3 (ix3 0 0 (y 2)))

/-- An element of a slab is a row's and a lane's. -/
theorem slab_idx (x : S1x512x128.Idx) : ∃ (r : Fin 512) (l : Fin 128), x = ix3 0 r l := by
  refine ⟨x 1, x 2, ?_⟩
  funext a
  fin_cases a
  · exact Fin.ext (by have h : (x 0).val < 1 := (x 0).isLt; show (x 0).val = 0; omega)
  · rfl
  · rfl

/-- Where a store of 128 columns from column `n` puts an element. -/
theorem G_slab (n : ℕ) (hn : n + 128 ≤ 3456) (r : Fin 512) (l : Fin 128) :
    G x0 x1 x2 x3 ((Rect.unit (s := S1x512x3456) ![0, 0, n] S1x512x128.size (inbY n hn)).emb (ix3 0 r l)) =
      result (fun k => x0 (ix3 0 r k)) (fun d => x1 (ix3 0 d ⟨n + l.val, by omega⟩)) (x2 (ix3 0 0 ⟨n + l.val, by omega⟩))
        (x3 (ix3 0 0 ⟨n + l.val, by omega⟩)) := by
  have h1 : (Rect.unit (s := S1x512x3456) ![0, 0, n] S1x512x128.size (inbY n hn)).emb (ix3 0 r l) 1 = r :=
    Fin.ext (by show 0 + 1 * r.val = r.val; omega)
  have h2 : (Rect.unit (s := S1x512x3456) ![0, 0, n] S1x512x128.size (inbY n hn)).emb (ix3 0 r l) 2 = (⟨n + l.val, by omega⟩ : Fin 3456) :=
    Fin.ext (by show n + 1 * l.val = n + l.val; omega)
  unfold G
  rw [h1, h2]

theorem out_result (r : Fin 512) (n : Fin 3456) :
    out1_A_4 (F := Ideal) c i arg2 harg2 arg3 harg3 arg4 harg4 arg5 harg5 arg6 harg6 arg7 harg7 arg8 harg8 arg9 harg9 arg10 harg10 x0 x1 x2 x3 (ix3 0 r n)
      = result (fun k => x0 (ix3 0 r k)) (fun d => x1 (ix3 0 d n)) (x2 (ix3 0 0 n)) (x3 (ix3 0 0 n)) := by
  unfold out1_A_4
  rw [View.read_writes_junk_eq_canon]
  refine View.canon_apply_of_pieces (G x0 x1 x2 x3) _ ?_ _ (cover1_A_4 c i arg2 harg2 arg3 harg3 arg4 harg4 arg5 harg5 arg6 harg6 arg7 harg7 arg8 harg8 arg9 harg9 arg10 harg10 x0 x1 x2 x3 _)
  rw [stored_result]
  intro p hp
  rcases List.mem_cons.mp hp with rfl | hp
  · intro x
    obtain ⟨r, l, rfl⟩ := slab_idx x
    refine (last_apply _ _ _ _ _ _ _).trans (Eq.trans ?_ (G_slab x0 x1 x2 x3 3328 (by omega) r l).symm)
    simp only [hcodes_apply, hscales_apply, lanes_apply, lastCols_apply]
    rfl
  · obtain ⟨j, -, hj⟩ := List.mem_flatMap.mp hp
    simp only [List.mem_cons, List.not_mem_nil, or_false] at hj
    rcases hj with rfl | rfl
    · intro x
      obtain ⟨r, l, rfl⟩ := slab_idx x
      refine (second_apply _ _ _ _ _ _ _).trans (Eq.trans ?_ (G_slab x0 x1 x2 x3 (256 * j.val + 128) (by omega) r l).symm)
      simp only [hcodes_apply, hscales_apply, lanes_apply, cols_apply]
      simp only [← Nat.add_assoc]
      rfl
    · intro x
      obtain ⟨r, l, rfl⟩ := slab_idx x
      refine (first_apply _ _ _ _ _ _ _).trans (Eq.trans ?_ (G_slab x0 x1 x2 x3 (256 * j.val) (by omega) r l).symm)
      simp only [hcodes_apply, hscales_apply, lanes_apply, cols_apply]
      rfl

end Cert.KernelIdeal.Slabs
-- ==== Proof.MainArrays.lean ====
/- The second kernel call's output arrays once its sixty-four blocks of rows are done, element by element. -/
module

public import proofs.«01_k».proof.Proof.RowPieces
public import proofs.«01_k».proof.Proof.ScaleRow
public import proofs.«01_k».proof.Proof.Slabs

@[expose] public section

set_option maxRecDepth 16384

noncomputable section

namespace Cert.KernelIdeal.MainArrays

open Cert Cert.KernelIdeal Cert.KernelIdeal.Gen Cert.KernelIdeal.Run Cert.KernelIdeal.Slabs Cert.Quant
open Idealize.ShloMosaic Idealize.ShloMosaic.TcCoe Idealize.ShloMosaic.Tactic Idealize.SL.Sem
open Idealize.ShloMosaic.Pipeline (Dat Cfg Window)

/-- Which block each window holds at each point: point `16 * b + i` is the `i`-th block of rows of batch `b`. -/
theorem at0 : ∀ t : Fin cfg1.N, win1_0.index t (0 : Fin 3) = t.val / 16 ∧ win1_0.index t (1 : Fin 3) = t.val % 16 ∧ win1_0.index t (2 : Fin 3) = 0 :=
  (by decide +kernel : ∀ t : Fin grid1.N, _)
theorem at1 : ∀ t : Fin cfg1.N, win1_1.index t (0 : Fin 3) = t.val / 16 ∧ win1_1.index t (1 : Fin 3) = 0 ∧ win1_1.index t (2 : Fin 3) = 0 :=
  (by decide +kernel : ∀ t : Fin grid1.N, _)
theorem at2 : ∀ t : Fin cfg1.N, win1_2.index t (0 : Fin 3) = t.val / 16 ∧ win1_2.index t (1 : Fin 3) = 0 ∧ win1_2.index t (2 : Fin 3) = 0 :=
  (by decide +kernel : ∀ t : Fin grid1.N, _)
theorem at3 : ∀ t : Fin cfg1.N, win1_3.index t (0 : Fin 3) = t.val / 16 ∧ win1_3.index t (1 : Fin 3) = 0 ∧ win1_3.index t (2 : Fin 3) = 0 :=
  (by decide +kernel : ∀ t : Fin grid1.N, _)
theorem at4 : ∀ t : Fin cfg1.N, win1_4.index t (0 : Fin 3) = t.val / 16 ∧ win1_4.index t (1 : Fin 3) = t.val % 16 ∧ win1_4.index t (2 : Fin 3) = 0 :=
  (by decide +kernel : ∀ t : Fin grid1.N, _)
theorem at5 : ∀ t : Fin cfg1.N, win1_5.index t (0 : Fin 3) = t.val / 16 ∧ win1_5.index t (1 : Fin 3) = t.val % 16 ∧ win1_5.index t (2 : Fin 3) = 0 :=
  (by decide +kernel : ∀ t : Fin grid1.N, _)
theorem at6 : ∀ t : Fin cfg1.N, win1_6.index t (0 : Fin 4) = t.val / 16 ∧ win1_6.index t (1 : Fin 4) = t.val % 16 ∧ win1_6.index t (2 : Fin 4) = 0 ∧ win1_6.index t (3 : Fin 4) = 0 :=
  (by decide +kernel : ∀ t : Fin grid1.N, _)

theorem points (t : Fin cfg1.N) : t.val < 64 := lt_of_lt_of_eq t.isLt (by decide +kernel : grid1.N = 64)

/-- The batch of a point. -/
def batch (t : Fin cfg1.N) : Fin 4 := ⟨t.val / 16, by have := points t; omega⟩
/-- The block of rows of a point. -/
def part (t : Fin cfg1.N) : Fin 16 := ⟨t.val % 16, by omega⟩
/-- Row `r` of the block of a point. -/
def row (t : Fin cfg1.N) (r : Fin 512) : Fin 8192 := ⟨t.val % 16 * 512 + r.val, by omega⟩

variable (V : (c : Dev nD) → (b : Ref sig .tc) → Buf (Elt Ideal) ((c : Thread nD τ).loc b)) (c : Dev nD)

theorem blk0 (t : Fin cfg1.N) (r : Fin 512) (k : Fin 1152) : iblk1 V c 0 t (ix3 0 r k) = V c main_arg0 (ix3 (batch t) (row t r) k) := by
  obtain ⟨e0, e1, e2⟩ := at0 t
  show V c main_arg0 (((cfg1.win 0).blk t).view.emb (ix3 0 r k)) = _
  congr 1
  funext a
  apply Fin.ext
  fin_cases a
  · show win1_0.index t (0 : Fin 3) * 1 + 1 * 0 = t.val / 16
    omega
  · show win1_0.index t (1 : Fin 3) * 512 + 1 * r.val = t.val % 16 * 512 + r.val
    omega
  · show win1_0.index t (2 : Fin 3) * 1152 + 1 * k.val = k.val
    omega

theorem blk1 (t : Fin cfg1.N) (d : Fin 1152) (n : Fin 3456) : iblk1 V c 1 t (ix3 0 d n) = V c main_v4_0 (ix3 (batch t) d n) := by
  obtain ⟨e0, e1, e2⟩ := at1 t
  show V c main_v4_0 (((cfg1.win 1).blk t).view.emb (ix3 0 d n)) = _
  congr 1
  funext a
  apply Fin.ext
  fin_cases a
  · show win1_1.index t (0 : Fin 3) * 1 + 1 * 0 = t.val / 16
    omega
  · show win1_1.index t (1 : Fin 3) * 1152 + 1 * d.val = d.val
    omega
  · show win1_1.index t (2 : Fin 3) * 3456 + 1 * n.val = n.val
    omega

theorem blk2 (t : Fin cfg1.N) (n : Fin 3456) : iblk1 V c 2 t (ix3 0 0 n) = V c main_v4_1 (ix3 (batch t) 0 n) := by
  obtain ⟨e0, e1, e2⟩ := at2 t
  show V c main_v4_1 (((cfg1.win 2).blk t).view.emb (ix3 0 0 n)) = _
  congr 1
  funext a
  apply Fin.ext
  fin_cases a
  · show win1_2.index t (0 : Fin 3) * 1 + 1 * 0 = t.val / 16
    omega
  · show win1_2.index t (1 : Fin 3) * 1 + 1 * 0 = 0
    omega
  · show win1_2.index t (2 : Fin 3) * 3456 + 1 * n.val = n.val
    omega

theorem blk3 (t : Fin cfg1.N) (n : Fin 3456) : iblk1 V c 3 t (ix3 0 0 n) = V c main_v4_2 (ix3 (batch t) 0 n) := by
  obtain ⟨e0, e1, e2⟩ := at3 t
  show V c main_v4_2 (((cfg1.win 3).blk t).view.emb (ix3 0 0 n)) = _
  congr 1
  funext a
  apply Fin.ext
  fin_cases a
  · show win1_3.index t (0 : Fin 3) * 1 + 1 * 0 = t.val / 16
    omega
  · show win1_3.index t (1 : Fin 3) * 1 + 1 * 0 = 0
    omega
  · show win1_3.index t (2 : Fin 3) * 3456 + 1 * n.val = n.val
    omega

theorem place4 (t : Fin cfg1.N) (r : Fin 512) (n : Fin 3456) :
    ((cfg1.win 4).blk t).view.emb (ix3 0 r n) = ix3 (batch t) (row t r) n := by
  obtain ⟨e0, e1, e2⟩ := at4 t
  funext a
  apply Fin.ext
  fin_cases a
  · show win1_4.index t (0 : Fin 3) * 1 + 1 * 0 = t.val / 16
    omega
  · show win1_4.index t (1 : Fin 3) * 512 + 1 * r.val = t.val % 16 * 512 + r.val
    omega
  · show win1_4.index t (2 : Fin 3) * 3456 + 1 * n.val = n.val
    omega

theorem place5 (t : Fin cfg1.N) (r : Fin 512) (d : Fin 1152) :
    ((cfg1.win 5).blk t).view.emb (ix3 0 r d) = ix3 (batch t) (row t r) d := by
  obtain ⟨e0, e1, e2⟩ := at5 t
  funext a
  apply Fin.ext
  fin_cases a
  · show win1_5.index t (0 : Fin 3) * 1 + 1 * 0 = t.val / 16
    omega
  · show win1_5.index t (1 : Fin 3) * 512 + 1 * r.val = t.val % 16 * 512 + r.val
    omega
  · show win1_5.index t (2 : Fin 3) * 1152 + 1 * d.val = d.val
    omega

theorem place6 (t : Fin cfg1.N) (r : Fin 512) :
    ((cfg1.win 6).blk t).view.emb (ix4 0 0 0 r) = ix4 (batch t) (part t) 0 r := by
  obtain ⟨e0, e1, e2, e3⟩ := at6 t
  funext a
  apply Fin.ext
  fin_cases a
  · show win1_6.index t (0 : Fin 4) * 1 + 1 * 0 = t.val / 16
    omega
  · show win1_6.index t (1 : Fin 4) * 1 + 1 * 0 = t.val % 16
    omega
  · show win1_6.index t (2 : Fin 4) * 1 + 1 * 0 = 0
    omega
  · show win1_6.index t (3 : Fin 4) * 512 + 1 * r.val = r.val
    omega

/-- The `s`-th row of batch `b`, from the array the call reads. -/
def input (b : Fin 4) (s : Fin 8192) (k : Fin 1152) : EReal := V c main_arg0 (ix3 b s k)

theorem input_blk (t : Fin cfg1.N) (r : Fin 512) :
    (fun k : Fin 1152 => iblk1 V c 0 t (ix3 0 r k)) = input V c (batch t) (row t r) := by
  funext k
  rw [blk0]
  rfl

/-- What each output array holds at the end. -/
def resultAt : S4x8192x3456.Idx → EReal := fun i =>
  result (input V c (i 0) (i 1)) (fun d => V c main_v4_0 (ix3 (i 0) d (i 2))) (V c main_v4_1 (ix3 (i 0) 0 (i 2))) (V c main_v4_2 (ix3 (i 0) 0 (i 2)))
def codesAt : S4x8192x1152.Idx → EReal := fun i => code (norm (input V c (i 0) (i 1))) (i 2)
def scalesAt : S4x16x1x512.Idx → EReal := fun i =>
  scale (norm (input V c (i 0) ⟨(i 1).val * 512 + (i 3).val, by
    have h1 : (i 1).val < 16 := (i 1).isLt
    have h3 : (i 3).val < 512 := (i 3).isLt
    omega⟩))

/-- What the body leaves at a point, in the rows of that point's block. -/
theorem outs_result (t : Fin cfg1.N) (r : Fin 512) (n : Fin 3456) : (outsAt1 V c t).1 (ix3 0 r n) =
    result (fun k => iblk1 V c 0 t (ix3 0 r k)) (fun d => iblk1 V c 1 t (ix3 0 d n)) (iblk1 V c 2 t (ix3 0 0 n)) (iblk1 V c 3 t (ix3 0 0 n)) := by
  unfold outsAt1
  dsimp only
  apply Slabs.out_result

theorem outs_codes (t : Fin cfg1.N) (r : Fin 512) (d : Fin 1152) : (outsAt1 V c t).2.1 (ix3 0 r d) =
    code (norm fun k => iblk1 V c 0 t (ix3 0 r k)) d := by
  unfold outsAt1
  dsimp only
  apply RowPieces.out_codes

theorem outs_scales (t : Fin cfg1.N) (r : Fin 512) : (outsAt1 V c t).2.2 (ix4 0 0 0 r) =
    scale (norm fun k => iblk1 V c 0 t (ix3 0 r k)) := by
  unfold outsAt1
  dsimp only
  apply ScaleRow.out_scales

theorem result_block (t : Fin cfg1.N) (y : S1x512x3456.Idx) :
    (dat1 V c).after 4 t y = resultAt V c (((cfg1.win 4).blk t).view.emb y) := by
  obtain ⟨r, n, rfl⟩ : ∃ (r : Fin 512) (n : Fin 3456), y = ix3 0 r n := ⟨y 1, y 2, by
    funext a
    fin_cases a
    · exact Fin.ext (by have h : (y 0).val < 1 := (y 0).isLt; show (y 0).val = 0; omega)
    · rfl
    · rfl⟩
  rw [after1_4]
  refine (outs_result V c t r n).trans ?_
  refine Eq.trans ?_ (congrArg (resultAt V c) (place4 t r n)).symm
  rw [input_blk, blk2, blk3]
  refine congrArg (fun u => result _ u _ _) (funext fun d => ?_)
  exact blk1 V c t d n

theorem codes_block (t : Fin cfg1.N) (y : S1x512x1152.Idx) :
    (dat1 V c).after 5 t y = codesAt V c (((cfg1.win 5).blk t).view.emb y) := by
  obtain ⟨r, d, rfl⟩ : ∃ (r : Fin 512) (d : Fin 1152), y = ix3 0 r d := ⟨y 1, y 2, by
    funext a
    fin_cases a
    · exact Fin.ext (by have h : (y 0).val < 1 := (y 0).isLt; show (y 0).val = 0; omega)
    · rfl
    · rfl⟩
  rw [after1_5]
  refine (outs_codes V c t r d).trans ?_
  refine Eq.trans ?_ (congrArg (codesAt V c) (place5 t r d)).symm
  rw [input_blk]
  rfl

theorem scales_block (t : Fin cfg1.N) (y : S1x1x1x512.Idx) :
    (dat1 V c).after 6 t y = scalesAt V c (((cfg1.win 6).blk t).view.emb y) := by
  obtain ⟨r, rfl⟩ : ∃ r : Fin 512, y = ix4 0 0 0 r := ⟨y 3, by
    funext a
    fin_cases a
    · exact Fin.ext (by have h : (y 0).val < 1 := (y 0).isLt; show (y 0).val = 0; omega)
    · exact Fin.ext (by have h : (y 1).val < 1 := (y 1).isLt; show (y 1).val = 0; omega)
    · exact Fin.ext (by have h : (y 2).val < 1 := (y 2).isLt; show (y 2).val = 0; omega)
    · rfl⟩
  rw [after1_6]
  refine (outs_scales V c t r).trans ?_
  refine Eq.trans ?_ (congrArg (scalesAt V c) (place6 t r)).symm
  rw [input_blk]
  rfl

/-- The array of results. -/
theorem result_array : (dat1 V c).arrAt 4 cfg1.N = resultAt V c := by
  refine (dat1 V c).arrAt_eq_of_covers 4 (resultAt V c) (by decide +kernel) fun t _ y => ?_
  blk_simp
  exact result_block V c t y

/-- The array of codes. -/
theorem codes_array : (dat1 V c).arrAt 5 cfg1.N = codesAt V c := by
  refine (dat1 V c).arrAt_eq_of_covers 5 (codesAt V c) (by decide +kernel) fun t _ y => ?_
  blk_simp
  exact codes_block V c t y

/-- The array of scales. -/
theorem scales_array : (dat1 V c).arrAt 6 cfg1.N = scalesAt V c := by
  refine (dat1 V c).arrAt_eq_of_covers 6 (scalesAt V c) (by decide +kernel) fun t _ y => ?_
  blk_simp
  exact scales_block V c t y

end Cert.KernelIdeal.MainArrays
-- ==== Proof.Spec.lean ====
/- The five results as plain functions of the six arguments, element by element, over the extended reals: what both
   programs are shown to leave. -/
module

public import proofs.«01_k».proof.Proof.Quant
public import Idealize.ShloMosaic.Lib.Pointwise

@[expose] public section

noncomputable section

namespace Cert.Spec

open Idealize.ShloMosaic Cert.Quant

/-- An array of extended reals of a shape. -/
abbrev Arr (s : Shape) : Type := s.Idx → EReal

/-- Row `s` of batch `b` of the input. -/
def row (x : Arr ⟨3, ![4, 8192, 1152]⟩) (b : Fin 4) (s : Fin 8192) (k : Fin 1152) : EReal := x (ix3 b s k)

/-- Column `n` of the weights modulated for batch `b`. -/
def column (g : Arr ⟨2, ![4, 1152]⟩) (w : Arr ⟨2, ![1152, 3456]⟩) (ws : Arr ⟨1, ![3456]⟩) (b : Fin 4) (n : Fin 3456) (d : Fin 1152) : EReal :=
  weight (g (ix2 b d)) (w (ix2 d n)) (ws (ix1 n))

/-- The constant of column `n` for batch `b`: the shift through the weights, and the bias. -/
def constant (h : Arr ⟨2, ![4, 1152]⟩) (w : Arr ⟨2, ![1152, 3456]⟩) (ws bias : Arr ⟨1, ![3456]⟩) (b : Fin 4) (n : Fin 3456) : EReal :=
  (∑ d, h (ix2 b d) * w (ix2 d n)) * ws (ix1 n) + bias (ix1 n)

/-- The codes of the normalised rows. -/
def rowCodes (x : Arr ⟨3, ![4, 8192, 1152]⟩) : Arr ⟨3, ![4, 8192, 1152]⟩ := fun i => code (norm (row x (i 0) (i 1))) (i 2)

/-- The scales of the normalised rows. -/
def rowScales (x : Arr ⟨3, ![4, 8192, 1152]⟩) : Arr ⟨2, ![4, 8192]⟩ := fun i => scale (norm (row x (i 0) (i 1)))

/-- The codes of the modulated weights. -/
def weightCodes (g : Arr ⟨2, ![4, 1152]⟩) (w : Arr ⟨2, ![1152, 3456]⟩) (ws : Arr ⟨1, ![3456]⟩) : Arr ⟨3, ![4, 1152, 3456]⟩ :=
  fun i => code (column g w ws (i 0) (i 2)) (i 1)

/-- The scales of the modulated weights. -/
def weightScales (g : Arr ⟨2, ![4, 1152]⟩) (w : Arr ⟨2, ![1152, 3456]⟩) (ws : Arr ⟨1, ![3456]⟩) : Arr ⟨2, ![4, 3456]⟩ :=
  fun i => scale (column g w ws (i 0) (i 1))

/-- The product of the codes, scaled back, plus the constants. -/
def product (x : Arr ⟨3, ![4, 8192, 1152]⟩) (g h : Arr ⟨2, ![4, 1152]⟩) (w : Arr ⟨2, ![1152, 3456]⟩) (ws bias : Arr ⟨1, ![3456]⟩) :
    Arr ⟨3, ![4, 8192, 3456]⟩ := fun i =>
  (∑ d, code (norm (row x (i 0) (i 1))) d * code (column g w ws (i 0) (i 2)) d) * scale (norm (row x (i 0) (i 1)))
    * scale (column g w ws (i 0) (i 2)) + constant h w ws bias (i 0) (i 2)

end Cert.Spec
-- ==== Proof.KernelArrays.lean ====
/- The kernel's five result arrays at the end of its run: they are the plain functions of the arguments. -/
module

public import proofs.«01_k».proof.Proof.Entry
public import proofs.«01_k».proof.Proof.PrepArrays
public import proofs.«01_k».proof.Proof.MainArrays
public import proofs.«01_k».proof.Proof.Spec

@[expose] public section

set_option maxRecDepth 16384

noncomputable section

namespace Cert.KernelIdeal.KernelArrays

open Cert Cert.KernelIdeal Cert.KernelIdeal.Gen Cert.KernelIdeal.Run Cert.Quant
open Idealize.ShloMosaic Idealize.ShloMosaic.TcCoe Idealize.ShloMosaic.Tactic Idealize.SL.Sem

variable (m : (ℓ : Loc nD τ sig) → Buf (Elt Ideal) ℓ) (ρ : Dev nD → PrngReg) (c : Dev nD)

/-! ## The arguments, as arrays of extended reals -/

abbrev x : Spec.Arr S4x8192x1152 := m ((c : Thread nD τ).loc main_arg0)
abbrev g : Spec.Arr S4x1152 := m ((c : Thread nD τ).loc main_arg1)
abbrev h : Spec.Arr S4x1152 := m ((c : Thread nD τ).loc main_arg2)
abbrev w : Spec.Arr S1152x3456 := m ((c : Thread nD τ).loc main_arg3)
abbrev ws : Spec.Arr S3456 := m ((c : Thread nD τ).loc main_arg4)
abbrev bias : Spec.Arr S3456 := m ((c : Thread nD τ).loc main_arg5)

/-! ## After the first call -/

theorem weights_entry : V3 m ρ c main_arg3 = m ((c : Thread nD τ).loc main_arg3) := W3_args m ρ c main_arg3 (by decide)

theorem column_eq (b : Fin 4) (n : Fin 3456) : PrepArrays.column (V3 m ρ) c b n = Spec.column (g m c) (w m c) (ws m c) b n := by
  funext d
  unfold PrepArrays.column
  rw [Entry.gains, weights_entry, Entry.scales]
  rfl

theorem const_eq (b : Fin 4) (n : Fin 3456) : PrepArrays.const (V3 m ρ) c b n = Spec.constant (h m c) (w m c) (ws m c) (bias m c) b n := by
  unfold PrepArrays.const PrepArrays.offset
  rw [weights_entry, Entry.scales, Entry.biases]
  refine congrArg₂ (· + ·) (congrArg₂ (· * ·) (Finset.sum_congr rfl fun d _ => ?_) rfl) rfl
  exact congrArg₂ (· * ·) (Entry.shifts m ρ c b d) rfl

theorem V4_codes (b : Fin 4) (d : Fin 1152) (n : Fin 3456) :
    V4 m ρ c main_v4_0 (ix3 b d n) = code (Spec.column (g m c) (w m c) (ws m c) b n) d := by
  have e : V4 m ρ c main_v4_0 = PrepArrays.codesAt (V3 m ρ) c := (W4_arr m ρ c 5).trans (PrepArrays.codes_array (V3 m ρ) c)
  rw [e, ← column_eq m ρ]
  rfl

theorem V4_scales (b : Fin 4) (n : Fin 3456) : V4 m ρ c main_v4_1 (ix3 b 0 n) = scale (Spec.column (g m c) (w m c) (ws m c) b n) := by
  have e : V4 m ρ c main_v4_1 = PrepArrays.scalesAt (V3 m ρ) c := (W4_arr m ρ c 6).trans (PrepArrays.scales_array (V3 m ρ) c)
  rw [e, ← column_eq m ρ]
  rfl

theorem V4_consts (b : Fin 4) (n : Fin 3456) : V4 m ρ c main_v4_2 (ix3 b 0 n) = Spec.constant (h m c) (w m c) (ws m c) (bias m c) b n := by
  have e : V4 m ρ c main_v4_2 = PrepArrays.constsAt (V3 m ρ) c := (W4_arr m ρ c 7).trans (PrepArrays.consts_array (V3 m ρ) c)
  rw [e, ← const_eq m ρ]
  rfl

theorem row_eq (b : Fin 4) (s : Fin 8192) : MainArrays.input (V4 m ρ) c b s = Spec.row (x m c) b s := by
  have e : V4 m ρ c main_arg0 = m ((c : Thread nD τ).loc main_arg0) := W4_args m ρ c main_arg0 (by decide)
  funext k
  unfold MainArrays.input
  rw [e]
  rfl

/-! ## The results -/

/-- The scaled product. -/
theorem product_eq : W6 m ρ c (Proc.devRef .tc main_v5_0) = Spec.product (x m c) (g m c) (h m c) (w m c) (ws m c) (bias m c) := by
  refine ((W6_of m ρ c main_v5_0 (by decide)).trans ((W5_arr m ρ c 4).trans (MainArrays.result_array (V4 m ρ) c))).trans ?_
  funext (i : S4x8192x3456.Idx)
  obtain ⟨b, s, n, rfl⟩ : ∃ (b : Fin 4) (s : Fin 8192) (n : Fin 3456), i = ix3 b s n := ⟨i 0, i 1, i 2, by funext a; fin_cases a <;> rfl⟩
  show Slabs.result (MainArrays.input (V4 m ρ) c b s) (fun d => V4 m ρ c main_v4_0 (ix3 b d n)) (V4 m ρ c main_v4_1 (ix3 b 0 n)) (V4 m ρ c main_v4_2 (ix3 b 0 n)) = _
  rw [row_eq, V4_scales, V4_consts]
  unfold Slabs.result
  refine congrArg₂ (· + ·) (congrArg₂ (· * ·) (congrArg₂ (· * ·) (Finset.sum_congr rfl fun d _ => ?_) rfl) rfl) rfl
  exact congrArg₂ (· * ·) rfl (V4_codes m ρ c b d n)

/-- The rows' codes. -/
theorem rowCodes_eq : W6 m ρ c (Proc.devRef .tc main_v5_1) = Spec.rowCodes (x m c) := by
  refine ((W6_of m ρ c main_v5_1 (by decide)).trans ((W5_arr m ρ c 5).trans (MainArrays.codes_array (V4 m ρ) c))).trans ?_
  funext (i : S4x8192x1152.Idx)
  obtain ⟨b, s, d, rfl⟩ : ∃ (b : Fin 4) (s : Fin 8192) (d : Fin 1152), i = ix3 b s d := ⟨i 0, i 1, i 2, by funext a; fin_cases a <;> rfl⟩
  show code (norm (MainArrays.input (V4 m ρ) c b s)) d = _
  rw [row_eq]
  rfl

/-- The weights' codes. -/
theorem weightCodes_eq : W6 m ρ c (Proc.devRef .tc main_v4_0) = Spec.weightCodes (g m c) (w m c) (ws m c) := by
  refine ((W6_of m ρ c main_v4_0 (by decide)).trans (W5_of m ρ c main_v4_0 (by decide))).trans ?_
  funext (i : S4x1152x3456.Idx)
  obtain ⟨b, d, n, rfl⟩ : ∃ (b : Fin 4) (d : Fin 1152) (n : Fin 3456), i = ix3 b d n := ⟨i 0, i 1, i 2, by funext a; fin_cases a <;> rfl⟩
  exact V4_codes m ρ c b d n

/-- The rows' scales: four blocks of sixteen rows of 512 read as four rows of 8192. -/
theorem rowScales_eq : W6 m ρ c (Proc.devRef .tc main_v6) = Spec.rowScales (x m c) := by
  funext (i : S4x8192.Idx)
  obtain ⟨b, s, rfl⟩ : ∃ (b : Fin 4) (s : Fin 8192), i = ix2 b s := ⟨i 0, i 1, by funext a; fin_cases a <;> rfl⟩
  have e : W5 m ρ c (Proc.devRef .tc main_v5_2) = MainArrays.scalesAt (V4 m ρ) c := (W5_arr m ρ c 6).trans (MainArrays.scales_array (V4 m ρ) c)
  have f : StableHlo.after hostOps2 (W5 m ρ c) (Proc.devRef .tc main_v6) (ix2 b s) =
      W5 m ρ c (Proc.devRef .tc main_v5_2) (ix4 b ⟨s.val / 512, by omega⟩ 0 ⟨s.val % 512, by omega⟩) := by
    generalize W5 m ρ c = X
    after_reads_at
  refine f.trans ?_
  rw [e]
  show scale (norm (MainArrays.input (V4 m ρ) c b ⟨s.val / 512 * 512 + s.val % 512, _⟩)) = _
  rw [row_eq]
  show scale (norm (Spec.row (x m c) b _)) = scale (norm (Spec.row (x m c) b s))
  congr 3
  exact Fin.ext (by show s.val / 512 * 512 + s.val % 512 = s.val; omega)

/-- The weights' scales. -/
theorem weightScales_eq : W6 m ρ c (Proc.devRef .tc main_v7) = Spec.weightScales (g m c) (w m c) (ws m c) := by
  funext (i : S4x3456.Idx)
  obtain ⟨b, n, rfl⟩ : ∃ (b : Fin 4) (n : Fin 3456), i = ix2 b n := ⟨i 0, i 1, by funext a; fin_cases a <;> rfl⟩
  have e : W5 m ρ c (Proc.devRef .tc main_v4_1) = V4 m ρ c main_v4_1 := W5_of m ρ c main_v4_1 (by decide)
  have f : StableHlo.after hostOps2 (W5 m ρ c) (Proc.devRef .tc main_v7) (ix2 b n) = W5 m ρ c (Proc.devRef .tc main_v4_1) (ix3 b 0 n) := by
    generalize W5 m ρ c = X
    after_reads_at
  refine f.trans ?_
  rw [e, V4_scales]
  rfl

end Cert.KernelIdeal.KernelArrays
-- ==== Proof.RefParts.lean ====
/- The reference's arrays read down to the plain functions: each of its intermediate arrays, element by element. -/
module

public import proofs.«01_k».proof.Proof.Gen.ReferenceIdeal.Frame
public import proofs.«01_k».proof.Proof.Quant
public import Idealize.ShloMosaic.Lib.Pointwise

@[expose] public section

set_option maxRecDepth 16384

noncomputable section

namespace Cert.ReferenceIdeal.RefParts

open Cert Cert.ReferenceIdeal Cert.ReferenceIdeal.Gen Cert.Quant Cert.Scale
open Idealize.ShloMosaic

/-! ## The pieces that do not depend on the arrays -/

theorem named_ln2 : Named.named (F := Ideal) κ "ln2" (φ := .f32) 0x3F317218#32 = ln2 :=
  IdealRules.named_const.ideal_named_scalar _ _ _ _ rfl

/-- The exponent the reference takes from a vector of largest magnitudes over 448. -/
def exponent {s : Shape} (t : FVec Ideal s .f32) : FVec Ideal s .f32 :=
  select (cmpf .olt t (broadcast s (Scalar.ofBits .f32 0x00800000#32))) (broadcast s (Scalar.ofBits .f32 0x00000000#32))
    (minimumf (addf (floor (divf (log t) (broadcast s (Named.named κ "ln2" 0x3F317218#32)))) (broadcast s (Scalar.ofBits .f32 0x3F800000#32)))
      (broadcast s (Scalar.ofBits .f32 0x42FC0000#32)))

theorem exponent_apply {s : Shape} (t : FVec Ideal s .f32) (j : s.Idx) : exponent t j = rExp (t j) := by
  show Scalar.select (Ideal.cmp .olt (t j) (Ideal.ofBits .f32 0x00800000#32)) (Ideal.ofBits .f32 0x00000000#32)
    (min (Ideal.liftRound Int.floor (Ideal.div (Ideal.log (t j)) (Named.named (F := Ideal) κ "ln2" (φ := .f32) 0x3F317218#32)) + Ideal.ofBits .f32 0x3F800000#32)
      (Ideal.ofBits .f32 0x42FC0000#32)) = _
  rw [named_ln2]
  rfl

/-- A largest value along the last axis. -/
theorem max_last {a b n : ℕ} (v : FVec Ideal ⟨3, ![a, b, n]⟩ .f32) (h : Shape.Reduces ⟨3, ![a, b, n]⟩ [2] ⟨2, ![a, b]⟩)
    (hφ : FKind.Formats .f32) (hacc : (0xFF800000#32 : BitVec 32) = FKind.maximumf.neutral .f32 hφ) (i : Fin a) (j : Fin b) :
    multiReduction .maximumf [2] ⟨2, ![a, b]⟩ v 0xFF800000#32 h hφ hacc (ix2 i j) =
      Finset.univ.fold max (Ideal.ofBits .f32 0xFF800000#32) (fun k : Fin n => v (ix3 i j k)) := by
  refine (Ideal.multiReduction_maximumf_single v _ h hφ hacc (ix2 i j)).trans ?_
  refine congrArg (fun f => Finset.fold max (Ideal.ofBits .f32 0xFF800000#32) f (Finset.univ : Finset (Fin n))) (funext fun k => congrArg v ?_)
  funext c
  apply Fin.ext
  fin_cases c <;> rfl

/-- A largest value along the middle axis. -/
theorem max_middle {a b n : ℕ} (v : FVec Ideal ⟨3, ![a, n, b]⟩ .f32) (h : Shape.Reduces ⟨3, ![a, n, b]⟩ [1] ⟨2, ![a, b]⟩)
    (hφ : FKind.Formats .f32) (hacc : (0xFF800000#32 : BitVec 32) = FKind.maximumf.neutral .f32 hφ) (i : Fin a) (j : Fin b) :
    multiReduction .maximumf [1] ⟨2, ![a, b]⟩ v 0xFF800000#32 h hφ hacc (ix2 i j) =
      Finset.univ.fold max (Ideal.ofBits .f32 0xFF800000#32) (fun k : Fin n => v (ix3 i k j)) := by
  refine (Ideal.multiReduction_maximumf_single v _ h hφ hacc (ix2 i j)).trans ?_
  refine congrArg (fun f => Finset.fold max (Ideal.ofBits .f32 0xFF800000#32) f (Finset.univ : Finset (Fin n))) (funext fun k => congrArg v ?_)
  funext c
  apply Fin.ext
  fin_cases c <;> rfl

theorem cast_rows (t : FVec Ideal S4x8192 .f32) (b : Fin 4) (s : Fin 8192) :
    shapeCast S4x8192x1 t shapeCasts_S4x8192_S4x8192x1 (ix3 b s 0) = t (ix2 b s) := by pointwise

theorem cast_columns (t : FVec Ideal S4x3456 .f32) (b : Fin 4) (n : Fin 3456) :
    shapeCast S4x1x3456 t shapeCasts_S4x3456_S4x1x3456 (ix3 b 0 n) = t (ix2 b n) := by pointwise

theorem spread_rows (t : FVec Ideal S4x8192x1 .f32) (b : Fin 4) (s : Fin 8192) (d : Fin 1152) :
    broadcastTo S4x8192x1152 t broadcasts_S4x8192x1_S4x8192x1152 (ix3 b s d) = t (ix3 b s 0) := by pointwise

theorem spread_columns (t : FVec Ideal S4x1x3456 .f32) (b : Fin 4) (d : Fin 1152) (n : Fin 3456) :
    broadcastTo S4x1152x3456 t broadcasts_S4x1x3456_S4x1152x3456 (ix3 b d n) = t (ix3 b 0 n) := by pointwise

/-- The inverse scales of a vector of exponents. -/
def inverse {s : Shape} (e : FVec Ideal s .f32) : FVec Ideal s .f32 := exp2 (subf (broadcast s (Scalar.ofBits .f32 0x00000000#32)) e)

theorem inverse_apply {s : Shape} (t : FVec Ideal s .f32) (j : s.Idx) : inverse (exponent t) j = rInv (t j) := by
  show Ideal.exp2 (Ideal.ofBits .f32 0x00000000#32 - exponent t j) = _
  rw [exponent_apply]
  rfl

/-- The scales of a vector of exponents. -/
theorem scales_apply {s : Shape} (t : FVec Ideal s .f32) (j : s.Idx) : exp2 (exponent t) j = rScale (t j) := by
  show Ideal.exp2 (exponent t j) = _
  rw [exponent_apply]
  rfl

theorem times_apply {s : Shape} (u v : FVec Ideal s .f32) (j : s.Idx) : mulf u v j = u j * v j := rfl

theorem largest_apply {s : Shape} (u : FVec Ideal s .f32) (j : s.Idx) : absf u j = max (u j) (-(u j)) := rfl

/-! ## The rows -/

section Rows
variable (x : Vec Ideal S4x8192x1152 .bf16)

/-- One row. -/
def row (b : Fin 4) (s : Fin 8192) (k : Fin 1152) : EReal := x (ix3 b s k)

theorem pay4_apply (b : Fin 4) (s : Fin 8192) (d : Fin 1152) : k0_pay4 x (ix3 b s d) = norm (row x b s) d := by
  pointwise [k0_pay4]
  simp only [div_len]
  rfl

/-- Each row's largest magnitude over 448. -/
def tops : FVec Ideal S4x8192x1 .f32 :=
  mulf (shapeCast S4x8192x1 (multiReduction .maximumf [2] S4x8192 (absf (k0_pay4 x)) 0xFF800000#32 reduces_S4x8192x1152_S4x8192 (.inl rfl) rfl) shapeCasts_S4x8192_S4x8192x1)
    (broadcast S4x8192x1 (Scalar.ofBits .f32 0x3B124925#32))

theorem tops_apply (b : Fin 4) (s : Fin 8192) : tops x (ix3 b s 0) = top (norm (row x b s)) := by
  unfold tops top
  rw [times_apply, cast_rows]
  refine congrArg₂ (· * ·) ((max_last _ _ _ _ b s).trans (Finset.fold_congr fun k _ => ?_)) rfl
  rw [largest_apply, pay4_apply]

theorem pay5_eq : k0_pay5 x = exponent (tops x) := by
  unfold k0_pay5 tops exponent
  rfl

theorem pay6_apply (b : Fin 4) (s : Fin 8192) : k0_pay6 x (ix3 b s 0) = scale (norm (row x b s)) := by
  unfold k0_pay6
  rw [pay5_eq]
  refine (scales_apply (tops x) (ix3 b s 0)).trans ?_
  rw [tops_apply]
  rfl

theorem pay7_eq : k0_pay7 x = mulf (k0_pay4 x) (broadcastTo S4x8192x1152 (inverse (k0_pay5 x)) broadcasts_S4x8192x1_S4x8192x1152) := by
  unfold k0_pay7 inverse
  rfl

theorem pay7_apply (b : Fin 4) (s : Fin 8192) (d : Fin 1152) :
    k0_pay7 x (ix3 b s d) = norm (row x b s) d * rInv (top (norm (row x b s))) := by
  rw [pay7_eq, times_apply, spread_rows, pay4_apply, pay5_eq, inverse_apply, tops_apply]

end Rows

/-! ## The modulated weights -/

section Weights
variable (w : Vec Ideal S1152x3456 .fp8e4m3) (ws : Vec Ideal S3456 .f32) (g : Vec Ideal S4x1152 .f32)

/-- One column. -/
def column (b : Fin 4) (n : Fin 3456) (d : Fin 1152) : EReal := weight (g (ix2 b d)) (w (ix2 d n)) (ws (ix1 n))

theorem pay12_apply (b : Fin 4) (d : Fin 1152) (n : Fin 3456) : k0_pay12 ws w g (ix3 b d n) = column w ws g b n d := by
  pointwise [k0_pay12, k0_pay11]
  rfl

/-- Each column's largest magnitude over 448. -/
def peaks : FVec Ideal S4x1x3456 .f32 :=
  mulf (shapeCast S4x1x3456 (multiReduction .maximumf [1] S4x3456 (absf (k0_pay12 ws w g)) 0xFF800000#32 reduces_S4x1152x3456_S4x3456 (.inl rfl) rfl) shapeCasts_S4x3456_S4x1x3456)
    (broadcast S4x1x3456 (Scalar.ofBits .f32 0x3B124925#32))

theorem peaks_apply (b : Fin 4) (n : Fin 3456) : peaks w ws g (ix3 b 0 n) = top (column w ws g b n) := by
  unfold peaks top
  rw [times_apply, cast_columns]
  refine congrArg₂ (· * ·) ((max_middle _ _ _ _ b n).trans (Finset.fold_congr fun k _ => ?_)) rfl
  rw [largest_apply, pay12_apply]

theorem pay13_eq : k0_pay13 ws w g = exponent (peaks w ws g) := by
  unfold k0_pay13 peaks exponent
  rfl

theorem pay14_apply (b : Fin 4) (n : Fin 3456) : k0_pay14 ws w g (ix3 b 0 n) = scale (column w ws g b n) := by
  unfold k0_pay14
  rw [pay13_eq]
  refine (scales_apply (peaks w ws g) (ix3 b 0 n)).trans ?_
  rw [peaks_apply]
  rfl

theorem pay15_eq : k0_pay15 ws w g = maximumf (broadcast S4x1152x3456 (Scalar.ofBits .f32 0xC3E00000#32))
    (mulf (k0_pay12 ws w g) (broadcastTo S4x1152x3456 (inverse (k0_pay13 ws w g)) broadcasts_S4x1x3456_S4x1152x3456)) := by
  unfold k0_pay15 inverse
  rfl

theorem larger_apply {s : Shape} (a : EReal) (v : FVec Ideal s .f32) (j : s.Idx) : maximumf (broadcast s a) v j = max a (v j) := rfl

theorem pay15_apply (b : Fin 4) (d : Fin 1152) (n : Fin 3456) : k0_pay15 ws w g (ix3 b d n) =
    max (Ideal.ofBits .f32 0xC3E00000#32) (column w ws g b n d * rInv (top (column w ws g b n))) := by
  rw [pay15_eq]
  refine (larger_apply _ _ _).trans (congrArg (max (Ideal.ofBits .f32 0xC3E00000#32)) ?_)
  rw [times_apply, spread_columns, pay12_apply, pay13_eq, inverse_apply, peaks_apply]

end Weights

end Cert.ReferenceIdeal.RefParts
-- ==== Proof.RefArrays.lean ====
/- The reference's five result arrays, element by element: they are the plain functions. -/
module

public import proofs.«01_k».proof.Proof.Gen.ReferenceIdeal.Value
public import proofs.«01_k».proof.Proof.RefParts
public import proofs.«01_k».proof.Proof.Spec

@[expose] public section

set_option maxRecDepth 16384

noncomputable section

namespace Cert.ReferenceIdeal.RefArrays

open Cert Cert.ReferenceIdeal Cert.ReferenceIdeal.Gen Cert.ReferenceIdeal.RefParts Cert.Quant Cert.Scale
open Idealize.ShloMosaic

theorem zero1 : (![0] : Fin 1 → ℕ) = fun _ => 0 := by funext a; fin_cases a; rfl
theorem zero2 : (![0, 0] : Fin 2 → ℕ) = fun _ => 0 := by funext a; fin_cases a <;> rfl
theorem zero3 : (![0, 0, 0] : Fin 3 → ℕ) = fun _ => 0 := by funext a; fin_cases a <;> rfl

variable (x : Vec Ideal S4x8192x1152 .bf16) (g h : Vec Ideal S4x1152 .f32) (w : Vec Ideal S1152x3456 .fp8e4m3) (ws bias : Vec Ideal S3456 .f32)

/-- A load of a whole array is the array. -/
theorem whole0 : View.ld x r0_0 = x := View.ld_unit_zero zero3 _ x
theorem whole1 : View.ld ws r0_1 = ws := View.ld_unit_zero zero1 _ ws
theorem whole2 : View.ld w r0_2 = w := View.ld_unit_zero zero2 _ w
theorem whole3 : View.ld g r0_3 = g := View.ld_unit_zero zero2 _ g

theorem clip_apply (v : FVec Ideal S4x8192x1152 .f32) (j : S4x8192x1152.Idx) : k0_pay9 v (Scalar.ofBits .f32 0x43E00000#32) (k0_pay8 (F := Ideal)) j =
    min (Ideal.ofBits .f32 0x43E00000#32) (max (Ideal.ofBits .f32 0xC3E00000#32) (v j)) := rfl

theorem clip_weights_apply (v : FVec Ideal S4x1152x3456 .f32) (j : S4x1152x3456.Idx) : k0_pay1 (Scalar.ofBits .f32 0x43E00000#32) v j =
    min (Ideal.ofBits .f32 0x43E00000#32) (v j) := rfl

theorem squeeze_rows (t : FVec Ideal S4x8192x1 .f32) (b : Fin 4) (s : Fin 8192) : k0_pay10 t (ix2 b s) = t (ix3 b s 0) := by
  pointwise [k0_pay10]

theorem squeeze_columns (t : FVec Ideal S4x1x3456 .f32) (b : Fin 4) (n : Fin 3456) : k0_pay2 t (ix2 b n) = t (ix3 b 0 n) := by
  pointwise [k0_pay2]

theorem pay16_apply (b : Fin 4) (s : Fin 8192) (d : Fin 1152) : k0_pay16 x g h w ws bias (ix3 b s d) = code (norm (row x b s)) d := by
  unfold k0_pay16
  rw [whole0, clip_apply, pay7_apply]
  rfl

theorem pay17_apply (b : Fin 4) (s : Fin 8192) : k0_pay17 x g h w ws bias (ix2 b s) = scale (norm (row x b s)) := by
  unfold k0_pay17
  rw [whole0, squeeze_rows, pay6_apply]

theorem pay18_apply (b : Fin 4) (n : Fin 3456) : k0_pay18 x g h w ws bias (ix3 b 0 n) = scale (column w ws g b n) := by
  unfold k0_pay18
  rw [whole1, whole2, whole3, pay14_apply]

theorem pay1_apply (b : Fin 4) (d : Fin 1152) (n : Fin 3456) :
    k0_pay1 (Scalar.ofBits .f32 0x43E00000#32) (k0_pay19 x g h w ws bias) (ix3 b d n) = code (column w ws g b n) d := by
  unfold k0_pay19
  rw [whole1, whole2, whole3, clip_weights_apply, pay15_apply]
  rfl

theorem combine (a : FVec Ideal S4x8192x1152 .fp8e4m3) (hs : FVec Ideal S4x8192 .f32) (t : FVec Ideal S4x1x3456 .f32) (v : FVec Ideal S4x1152x3456 .f32)
    (b : Fin 4) (s : Fin 8192) (n : Fin 3456) :
    k0_pay3 a hs ws (k0_pay11 w) t (Scalar.ofBits .f32 0x43E00000#32) v h bias (ix3 b s n) =
      (∑ d, a (ix3 b s d) * k0_pay1 (Scalar.ofBits .f32 0x43E00000#32) v (ix3 b d n)) * hs (ix2 b s) * t (ix3 b 0 n)
        + ((∑ d, h (ix2 b d) * w (ix2 d n)) * ws (ix1 n) + bias (ix1 n)) := by
  pointwise [k0_pay3, k0_pay11, k0_pay1, k0_pay2]

theorem product_eq : out0_6 x g h w ws bias = Spec.product x g h w ws bias := by
  funext i
  obtain ⟨b, s, n, rfl⟩ : ∃ (b : Fin 4) (s : Fin 8192) (n : Fin 3456), i = ix3 b s n := ⟨i 0, i 1, i 2, by funext a; fin_cases a <;> rfl⟩
  unfold out0_6
  rw [View.canon_unit_zero zero3, combine, whole1, whole2, whole3, whole1, pay17_apply, pay18_apply]
  refine congrArg₂ (· + ·) (congrArg₂ (· * ·) (congrArg₂ (· * ·) (Finset.sum_congr rfl fun d _ => ?_) rfl) rfl) rfl
  rw [pay16_apply, pay1_apply]
  rfl

theorem rowCodes_eq : out0_7 x g h w ws bias = Spec.rowCodes x := by
  funext i
  obtain ⟨b, s, d, rfl⟩ : ∃ (b : Fin 4) (s : Fin 8192) (d : Fin 1152), i = ix3 b s d := ⟨i 0, i 1, i 2, by funext a; fin_cases a <;> rfl⟩
  unfold out0_7
  rw [View.canon_unit_zero zero3, pay16_apply]
  rfl

theorem rowScales_eq : out0_8 x g h w ws bias = Spec.rowScales x := by
  funext i
  obtain ⟨b, s, rfl⟩ : ∃ (b : Fin 4) (s : Fin 8192), i = ix2 b s := ⟨i 0, i 1, by funext a; fin_cases a <;> rfl⟩
  unfold out0_8
  rw [View.canon_unit_zero zero2, pay17_apply]
  rfl

theorem weightCodes_eq : out0_9 x g h w ws bias = Spec.weightCodes g w ws := by
  funext i
  obtain ⟨b, d, n, rfl⟩ : ∃ (b : Fin 4) (d : Fin 1152) (n : Fin 3456), i = ix3 b d n := ⟨i 0, i 1, i 2, by funext a; fin_cases a <;> rfl⟩
  unfold out0_9
  rw [View.canon_unit_zero zero3, pay1_apply]
  rfl

theorem weightScales_eq : out0_10 x g h w ws bias = Spec.weightScales g w ws := by
  funext i
  obtain ⟨b, n, rfl⟩ : ∃ (b : Fin 4) (n : Fin 3456), i = ix2 b n := ⟨i 0, i 1, by funext a; fin_cases a <;> rfl⟩
  unfold out0_10
  rw [View.canon_unit_zero zero2, squeeze_columns, pay18_apply]
  rfl

/-! ## The same, of the arrays as the reference's run names them -/

theorem product_run : Value.G6 x g h w ws bias = Spec.product x g h w ws bias :=
  (Value.out6_eq x g h w ws bias).symm.trans (product_eq x g h w ws bias)

theorem rowCodes_run : Value.G7 x g h w ws bias = Spec.rowCodes x :=
  (Value.out7_eq x g h w ws bias).symm.trans (rowCodes_eq x g h w ws bias)

theorem rowScales_run : Value.G8 x g h w ws bias = Spec.rowScales x :=
  (Value.out8_eq x g h w ws bias).symm.trans (rowScales_eq x g h w ws bias)

theorem weightCodes_run : Value.G9 x g h w ws bias = Spec.weightCodes g w ws :=
  (Value.out9_eq x g h w ws bias).symm.trans (weightCodes_eq x g h w ws bias)

theorem weightScales_run : Value.G10 x g h w ws bias = Spec.weightScales g w ws :=
  (Value.out10_eq x g h w ws bias).symm.trans (weightScales_eq x g h w ws bias)

end Cert.ReferenceIdeal.RefArrays
-- ==== Proof.lean ====
module

public import proofs.«01_k».proof.Defs
public import proofs.«01_k».proof.Proof.KernelFrame
public import proofs.«01_k».proof.Proof.KernelIdealFrame
public import proofs.«01_k».proof.Proof.KernelArrays
public import proofs.«01_k».proof.Proof.RefArrays

@[expose] public section

set_option maxRecDepth 16384

noncomputable section

namespace Cert.Proof

open Idealize.ShloMosaic Idealize.ShloMosaic.TcCoe Idealize.SL.Sem

open Cert.KernelIdeal.KernelArrays in
/-- Both programs leave the five plain functions of the arguments. -/
theorem equal : Cert.algebraic_KernelIdeal_ReferenceIdeal (hKernelIdeal := Cert.KernelIdeal.Gen.facts) (hReferenceIdeal := Cert.ReferenceIdeal.Gen.facts) := by
  intro m g₀ m' g' _ hargs
  refine ⟨fun c => Cert.Spec.product (x m c) (g m c) (h m c) (w m c) (ws m c) (bias m c), fun c => Cert.Spec.rowCodes (x m c),
    fun c => Cert.Spec.rowScales (x m c), fun c => Cert.Spec.weightCodes (g m c) (w m c) (ws m c), fun c => Cert.Spec.weightScales (g m c) (w m c) (ws m c), ?_, ?_⟩
  · refine (θ_run _ _ _).mono (fun r hr c => ?_) (Cert.KernelIdeal.Run.run (F := Ideal) m g₀)
    obtain ⟨hr, -⟩ := hr
    exact ⟨(hr c _ (Cert.KernelIdeal.Run.mem_uc Cert.KernelIdeal.main_v5_0 (by decide))).trans (product_eq m g₀ c),
      (hr c _ (Cert.KernelIdeal.Run.mem_uc Cert.KernelIdeal.main_v5_1 (by decide))).trans (rowCodes_eq m g₀ c),
      (hr c _ (Cert.KernelIdeal.Run.mem_uc Cert.KernelIdeal.main_v6 (by decide))).trans (rowScales_eq m g₀ c),
      (hr c _ (Cert.KernelIdeal.Run.mem_uc Cert.KernelIdeal.main_v4_0 (by decide))).trans (weightCodes_eq m g₀ c),
      (hr c _ (Cert.KernelIdeal.Run.mem_uc Cert.KernelIdeal.main_v7 (by decide))).trans (weightScales_eq m g₀ c),
      (hr c _ (Cert.KernelIdeal.Run.mem_uc Cert.KernelIdeal.main_arg0 (by decide))).trans (Cert.KernelIdeal.Run.W6_main_arg0 m g₀ c),
      (hr c _ (Cert.KernelIdeal.Run.mem_uc Cert.KernelIdeal.main_arg1 (by decide))).trans (Cert.KernelIdeal.Run.W6_main_arg1 m g₀ c),
      (hr c _ (Cert.KernelIdeal.Run.mem_uc Cert.KernelIdeal.main_arg2 (by decide))).trans (Cert.KernelIdeal.Run.W6_main_arg2 m g₀ c),
      (hr c _ (Cert.KernelIdeal.Run.mem_uc Cert.KernelIdeal.main_arg3 (by decide))).trans (Cert.KernelIdeal.Run.W6_main_arg3 m g₀ c),
      (hr c _ (Cert.KernelIdeal.Run.mem_uc Cert.KernelIdeal.main_arg4 (by decide))).trans (Cert.KernelIdeal.Run.W6_main_arg4 m g₀ c),
      (hr c _ (Cert.KernelIdeal.Run.mem_uc Cert.KernelIdeal.main_arg5 (by decide))).trans (Cert.KernelIdeal.Run.W6_main_arg5 m g₀ c)⟩
  · refine (θ_run _ _ _).mono (fun r hr c => ?_) (Cert.ReferenceIdeal.Value.run (F := Ideal) m' g')
    obtain ⟨h0, h1, h2, h3, h4, hk⟩ := hr c
    obtain ⟨a0, a1, a2, a3, a4, a5⟩ := hargs c
    rw [a0, a1, a2, a3, a4, a5] at h0 h1 h2 h3 h4
    exact ⟨h0.trans (Cert.ReferenceIdeal.RefArrays.product_run _ _ _ _ _ _), h1.trans (Cert.ReferenceIdeal.RefArrays.rowCodes_run _ _ _ _ _ _),
      h2.trans (Cert.ReferenceIdeal.RefArrays.rowScales_run _ _ _ _ _ _), h3.trans (Cert.ReferenceIdeal.RefArrays.weightCodes_run _ _ _ _ _ _),
      h4.trans (Cert.ReferenceIdeal.RefArrays.weightScales_run _ _ _ _ _ _), hk⟩

theorem claim : Cert.Claim :=
  ⟨Cert.Kernel.Gen.facts, Cert.KernelIdeal.Gen.facts, Cert.ReferenceIdeal.Gen.facts,
    fun m g _ => Cert.Kernel.Run.frame m g,
    fun m g _ => Cert.KernelIdeal.Run.frame m g,
    fun m g _ => Cert.ReferenceIdeal.Gen.frame m g,
    ⟨IdealRules.named_const.statement Cert.KernelIdeal.κ "ln2" .f32 0x3F317218#32 ((Real.log 2 : ℝ) : EReal) rfl,
      IdealRules.named_const.statement Cert.KernelIdeal.κ "inv_d" .f32 0x3A638E39#32 ((1 / 1152 : ℝ) : EReal) rfl⟩,
    equal⟩

end Cert.Proof

end
